-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_in_range [hPre_inputs_in_range : Cert.Pre_inputs_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_in_range [hPre_inputs_in_range : Cert.Pre_inputs_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_inputs_in_range [hKernelIdeal : Cert.KernelIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_inputs_in_range [hReferenceIdeal : Cert.ReferenceIdeal.Facts] [hPre_inputs_in_range : Cert.Pre_inputs_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_inputs_in_range [hKernelIdeal : Cert.KernelIdeal.Facts] [hReferenceIdeal : Cert.ReferenceIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v12_2)) (v1 : (c : Dev Cert.KernelIdeal.nD) → Buf (Elt Ideal) ((c.tc : Thread Cert.KernelIdeal.nD Cert.KernelIdeal.τ).loc Cert.KernelIdeal.main_v12_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_2) = v0 c
          ∧ r.2.mem ((c.tc : Thread Cert.KernelIdeal.nD Cert.KernelIdeal.τ).loc Cert.KernelIdeal.main_v12_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_inputs_in_range : Cert.Pre_inputs_in_range.Facts),
    quiescent_Kernel (hKernel := hKernel)
    ∧ quiescent_KernelIdeal (hKernelIdeal := hKernelIdeal)
    ∧ quiescent_KernelIdeal_pre_inputs_in_range (hKernelIdeal := hKernelIdeal) (hPre_inputs_in_range := hPre_inputs_in_range)
    ∧ quiescent_ReferenceIdeal (hReferenceIdeal := hReferenceIdeal)
    ∧ quiescent_ReferenceIdeal_pre_inputs_in_range (hReferenceIdeal := hReferenceIdeal) (hPre_inputs_in_range := hPre_inputs_in_range)
    ∧ preserves_Kernel_KernelIdeal
    ∧ algebraic_KernelIdeal_ReferenceIdeal_pre_inputs_in_range (hKernelIdeal := hKernelIdeal) (hReferenceIdeal := hReferenceIdeal) (hPre_inputs_in_range := hPre_inputs_in_range)
-- ==== Pre_inputs_in_range.lean ====
abbrev S8x512x80 : Shape := ⟨3, ![8, 512, 80]⟩
abbrev S8 : Shape := ⟨1, ![8]⟩
abbrev S8x64 : Shape := ⟨2, ![8, 64]⟩
abbrev S80x512 : Shape := ⟨2, ![80, 512]⟩
abbrev S512 : Shape := ⟨1, ![512]⟩
abbrev S500x512 : Shape := ⟨2, ![500, 512]⟩
abbrev S512x512 : Shape := ⟨2, ![512, 512]⟩
abbrev S512x500 : Shape := ⟨2, ![512, 500]⟩
abbrev S_ : Shape := ⟨0, ![]⟩

class Facts : Prop where
  bcast_S_S8 : S_.BroadcastsInDim S8 (![] : Fin 0 → Fin S8.rank)
  bcast_S_S8x64 : S_.BroadcastsInDim S8x64 (![] : Fin 0 → Fin S8x64.rank)
  bcast_S_S512x500 : S_.BroadcastsInDim S512x500 (![] : Fin 0 → Fin S512x500.rank)

variable [Facts]

def fn_part1 {F : FTy → Type} [FloatOps F] (main_arg13 : FVec F S512x500 .f32) (main_v4 : IVec S8 1) (main_v9 : IVec S8x64 1) (main_v14 : IVec S8 1) (main_v15 : FVec F S512x500 .f32) (main_v16 : FVec F S512x500 .f32) : IVec S8 1 × IVec S8x64 1 × IVec S8 1 × IVec S512x500 1 × IVec S512x500 1 :=
  let main_v17 : IVec S512x500 1 := cmpf .olt main_v15 main_v16
  let main_v18 : FVec F S512x500 .f32 := Host.absf main_arg13
  let main_cst_5 : FVec F S_ .f32 := constant S_ .f32 0x7F800000#32
  let main_v19 : FVec F S512x500 .f32 := broadcastInDim S512x500 ![] bcast_S_S512x500 main_cst_5
  let main_v20 : IVec S512x500 1 := cmpf .olt main_v18 main_v19
  (main_v4, main_v9, main_v14, main_v17, main_v20)

def fn {F : FTy → Type} [FloatOps F] (main_arg0 : FVec F S8x512x80 .f32) (main_arg1 : IVec S8 32) (main_arg2 : IVec S8x64 32) (main_arg3 : IVec S8 32) (main_arg4 : FVec F S80x512 .f32) (main_arg5 : FVec F S512 .f32) (main_arg6 : FVec F S500x512 .f32) (main_arg7 : FVec F S512x512 .f32) (main_arg8 : FVec F S512x512 .f32) (main_arg9 : FVec F S512x512 .f32) (main_arg10 : FVec F S512x500 .f32) (main_arg11 : FVec F S512x500 .f32) (main_arg12 : FVec F S512x500 .f32) (main_arg13 : FVec F S512x500 .f32) : IVec S8 1 × IVec S8x64 1 × IVec S8 1 × IVec S512x500 1 × IVec S512x500 1 :=
  let main_c : IVec S_ 32 := constantI S_ 32 256#32
  let main_v0 : IVec S8 32 := broadcastInDim S8 ![] bcast_S_S8 main_c
  let main_v1 : IVec S8 1 := cmpi .sge main_arg1 main_v0
  let main_c_0 : IVec S_ 32 := constantI S_ 32 512#32
  let main_v2 : IVec S8 32 := broadcastInDim S8 ![] bcast_S_S8 main_c_0
  let main_v3 : IVec S8 1 := cmpi .sle main_arg1 main_v2
  let main_v4 : IVec S8 1 := andi main_v1 main_v3
  let main_c_1 : IVec S_ 32 := constantI S_ 32 1#32
  let main_v5 : IVec S8x64 32 := broadcastInDim S8x64 ![] bcast_S_S8x64 main_c_1
  let main_v6 : IVec S8x64 1 := cmpi .sge main_arg2 main_v5
  let main_c_2 : IVec S_ 32 := constantI S_ 32 500#32
  let main_v7 : IVec S8x64 32 := broadcastInDim S8x64 ![] bcast_S_S8x64 main_c_2
  let main_v8 : IVec S8x64 1 := cmpi .slt main_arg2 main_v7
  let main_v9 : IVec S8x64 1 := andi main_v6 main_v8
  let main_c_3 : IVec S_ 32 := constantI S_ 32 32#32
  let main_v10 : IVec S8 32 := broadcastInDim S8 ![] bcast_S_S8 main_c_3
  let main_v11 : IVec S8 1 := cmpi .sge main_arg3 main_v10
  let main_c_4 : IVec S_ 32 := constantI S_ 32 64#32
  let main_v12 : IVec S8 32 := broadcastInDim S8 ![] bcast_S_S8 main_c_4
  let main_v13 : IVec S8 1 := cmpi .sle main_arg3 main_v12
  let main_v14 : IVec S8 1 := andi main_v11 main_v13
  let main_v15 : FVec F S512x500 .f32 := Host.absf main_arg10
  let main_cst : FVec F S_ .f32 := constant S_ .f32 0x7F800000#32
  let main_v16 : FVec F S512x500 .f32 := broadcastInDim S512x500 ![] bcast_S_S512x500 main_cst
  fn_part1 (F := F) main_arg13 main_v4 main_v9 main_v14 main_v15 main_v16
-- ==== Kernel.lean ====
abbrev S8x512x80 : Shape := ⟨3, ![8, 512, 80]⟩
abbrev S8 : Shape := ⟨1, ![8]⟩
abbrev S8x64 : Shape := ⟨2, ![8, 64]⟩
abbrev S80x512 : Shape := ⟨2, ![80, 512]⟩
abbrev S512 : Shape := ⟨1, ![512]⟩
abbrev S500x512 : Shape := ⟨2, ![500, 512]⟩
abbrev S512x512 : Shape := ⟨2, ![512, 512]⟩
abbrev S512x500 : Shape := ⟨2, ![512, 500]⟩
abbrev S_ : Shape := ⟨0, ![]⟩
abbrev S8x1 : Shape := ⟨2, ![8, 1]⟩
abbrev S8x65 : Shape := ⟨2, ![8, 65]⟩
abbrev S520x1 : Shape := ⟨2, ![520, 1]⟩
abbrev S8x1x64 : Shape := ⟨3, ![8, 1, 64]⟩
abbrev S1x512 : Shape := ⟨2, ![1, 512]⟩
abbrev S8x512x500 : Shape := ⟨3, ![8, 512, 500]⟩
abbrev S1x1 : Shape := ⟨2, ![1, 1]⟩
abbrev S8x512x512 : Shape := ⟨3, ![8, 512, 512]⟩
abbrev S8x72x500 : Shape := ⟨3, ![8, 72, 500]⟩
abbrev S8x72x512 : Shape := ⟨3, ![8, 72, 512]⟩
abbrev S129x8x512 : Shape := ⟨3, ![129, 8, 512]⟩
abbrev S576x8x512 : Shape := ⟨3, ![576, 8, 512]⟩
abbrev S520x500 : Shape := ⟨2, ![520, 500]⟩
abbrev S520x512 : Shape := ⟨2, ![520, 512]⟩
abbrev S65x500 : Shape := ⟨2, ![65, 500]⟩
abbrev S1x65x500 : Shape := ⟨3, ![1, 65, 500]⟩
abbrev S65x512 : Shape := ⟨2, ![65, 512]⟩
abbrev S1x65x512 : Shape := ⟨3, ![1, 65, 512]⟩
abbrev S65x65 : Shape := ⟨2, ![65, 65]⟩
abbrev S64x64 : Shape := ⟨2, ![64, 64]⟩
abbrev S1x512x80 : Shape := ⟨3, ![1, 512, 80]⟩
abbrev S512x80 : Shape := ⟨2, ![512, 80]⟩
abbrev S512x1 : Shape := ⟨2, ![512, 1]⟩
abbrev S1x512x500 : Shape := ⟨3, ![1, 512, 500]⟩
abbrev S1x512x512 : Shape := ⟨3, ![1, 512, 512]⟩
abbrev S65 : Shape := ⟨1, ![65]⟩
abbrev S65x1 : Shape := ⟨2, ![65, 1]⟩
abbrev S512x65 : Shape := ⟨2, ![512, 65]⟩
abbrev S1x65 : Shape := ⟨2, ![1, 65]⟩
abbrev S1x1x64 : Shape := ⟨3, ![1, 1, 64]⟩
abbrev S1x64 : Shape := ⟨2, ![1, 64]⟩
abbrev S500x64 : Shape := ⟨2, ![500, 64]⟩
abbrev S512x64 : Shape := ⟨2, ![512, 64]⟩
abbrev S64 : Shape := ⟨1, ![64]⟩
abbrev S64x1 : Shape := ⟨2, ![64, 1]⟩
abbrev S64x500 : Shape := ⟨2, ![64, 500]⟩
abbrev S512x127 : Shape := ⟨2, ![512, 127]⟩
abbrev S512x256 : Shape := ⟨2, ![512, 256]⟩
abbrev S256x512 : Shape := ⟨2, ![256, 512]⟩
abbrev S129x512 : Shape := ⟨2, ![129, 512]⟩
abbrev S129x1x512 : Shape := ⟨3, ![129, 1, 512]⟩
abbrev S64x8x512 : Shape := ⟨3, ![64, 8, 512]⟩
abbrev S64x8x1 : Shape := ⟨3, ![64, 8, 1]⟩
abbrev S64x8x511 : Shape := ⟨3, ![64, 8, 511]⟩
abbrev S64x8x2 : Shape := ⟨3, ![64, 8, 2]⟩
abbrev S64x8x510 : Shape := ⟨3, ![64, 8, 510]⟩
abbrev S64x8x4 : Shape := ⟨3, ![64, 8, 4]⟩
abbrev S64x8x508 : Shape := ⟨3, ![64, 8, 508]⟩
abbrev S64x8x8 : Shape := ⟨3, ![64, 8, 8]⟩
abbrev S64x8x504 : Shape := ⟨3, ![64, 8, 504]⟩
abbrev S64x8x16 : Shape := ⟨3, ![64, 8, 16]⟩
abbrev S64x8x496 : Shape := ⟨3, ![64, 8, 496]⟩
abbrev S64x8x32 : Shape := ⟨3, ![64, 8, 32]⟩
abbrev S64x8x480 : Shape := ⟨3, ![64, 8, 480]⟩
abbrev S64x8x64 : Shape := ⟨3, ![64, 8, 64]⟩
abbrev S64x8x448 : Shape := ⟨3, ![64, 8, 448]⟩
abbrev S64x8x128 : Shape := ⟨3, ![64, 8, 128]⟩
abbrev S64x8x384 : Shape := ⟨3, ![64, 8, 384]⟩
abbrev S8x512 : Shape := ⟨2, ![8, 512]⟩
abbrev S1x8x512 : Shape := ⟨3, ![1, 8, 512]⟩
abbrev S8x511 : Shape := ⟨2, ![8, 511]⟩
abbrev S8x2 : Shape := ⟨2, ![8, 2]⟩
abbrev S8x510 : Shape := ⟨2, ![8, 510]⟩
abbrev S8x4 : Shape := ⟨2, ![8, 4]⟩
abbrev S8x508 : Shape := ⟨2, ![8, 508]⟩
abbrev S8x8 : Shape := ⟨2, ![8, 8]⟩
abbrev S8x504 : Shape := ⟨2, ![8, 504]⟩
abbrev S8x16 : Shape := ⟨2, ![8, 16]⟩
abbrev S8x496 : Shape := ⟨2, ![8, 496]⟩
abbrev S8x32 : Shape := ⟨2, ![8, 32]⟩
abbrev S8x480 : Shape := ⟨2, ![8, 480]⟩
abbrev S8x448 : Shape := ⟨2, ![8, 448]⟩
abbrev S8x128 : Shape := ⟨2, ![8, 128]⟩
abbrev S8x384 : Shape := ⟨2, ![8, 384]⟩
abbrev S8x256 : Shape := ⟨2, ![8, 256]⟩
abbrev S8x6 : Shape := ⟨2, ![8, 6]⟩
abbrev S8x506 : Shape := ⟨2, ![8, 506]⟩
abbrev S8x3 : Shape := ⟨2, ![8, 3]⟩
abbrev S8x509 : Shape := ⟨2, ![8, 509]⟩
abbrev S8x5 : Shape := ⟨2, ![8, 5]⟩
abbrev S8x507 : Shape := ⟨2, ![8, 507]⟩
abbrev S8x7 : Shape := ⟨2, ![8, 7]⟩
abbrev S8x505 : Shape := ⟨2, ![8, 505]⟩
abbrev S8x48 : Shape := ⟨2, ![8, 48]⟩
abbrev S8x464 : Shape := ⟨2, ![8, 464]⟩
abbrev S8x24 : Shape := ⟨2, ![8, 24]⟩
abbrev S8x488 : Shape := ⟨2, ![8, 488]⟩
abbrev S8x40 : Shape := ⟨2, ![8, 40]⟩
abbrev S8x472 : Shape := ⟨2, ![8, 472]⟩
abbrev S8x56 : Shape := ⟨2, ![8, 56]⟩
abbrev S8x456 : Shape := ⟨2, ![8, 456]⟩
abbrev S8x192 : Shape := ⟨2, ![8, 192]⟩
abbrev S8x320 : Shape := ⟨2, ![8, 320]⟩
abbrev S1 : Shape := ⟨1, ![1]⟩

abbrev nBuf : Space → Nat
  | .hbm => 32
  | .vmem => 25
  | .smem => 2
  | _ => 0

abbrev bufTy : (tb : Table) → Fin (tcTables nBuf tb) → BufTy
  | .hbm, ⟨0, _⟩ => ⟨S8x512x80, .f32⟩
  | .hbm, ⟨1, _⟩ => ⟨S8, .i32⟩
  | .hbm, ⟨2, _⟩ => ⟨S8x64, .i32⟩
  | .hbm, ⟨3, _⟩ => ⟨S8, .i32⟩
  | .hbm, ⟨4, _⟩ => ⟨S80x512, .f32⟩
  | .hbm, ⟨5, _⟩ => ⟨S512, .f32⟩
  | .hbm, ⟨6, _⟩ => ⟨S500x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x500, .f32⟩
  | .hbm, ⟨11, _⟩ => ⟨S512x500, .f32⟩
  | .hbm, ⟨12, _⟩ => ⟨S512x500, .f32⟩
  | .hbm, ⟨13, _⟩ => ⟨S512x500, .f32⟩
  | .hbm, ⟨14, _⟩ => ⟨S_, .i32⟩
  | .hbm, ⟨15, _⟩ => ⟨S8x1, .i32⟩
  | .hbm, ⟨16, _⟩ => ⟨S8x65, .i32⟩
  | .hbm, ⟨17, _⟩ => ⟨S520x1, .i32⟩
  | .hbm, ⟨18, _⟩ => ⟨S_, .i32⟩
  | .hbm, ⟨19, _⟩ => ⟨S8x1, .i32⟩
  | .hbm, ⟨20, _⟩ => ⟨S8x65, .i32⟩
  | .hbm, ⟨21, _⟩ => ⟨S520x1, .i32⟩
  | .hbm, ⟨22, _⟩ => ⟨S8x1x64, .i32⟩
  | .hbm, ⟨23, _⟩ => ⟨S_, .i32⟩
  | .hbm, ⟨24, _⟩ => ⟨S8, .i32⟩
  | .hbm, ⟨25, _⟩ => ⟨S8, .i32⟩
  | .hbm, ⟨26, _⟩ => ⟨S8x1, .i32⟩
  | .hbm, ⟨27, _⟩ => ⟨S8x1, .i32⟩
  | .hbm, ⟨28, _⟩ => ⟨S1x512, .f32⟩
  | .hbm, ⟨29, _⟩ => ⟨S8x512x500, .f32⟩
  | .hbm, ⟨30, _⟩ => ⟨S1x1, .f32⟩
  | .hbm, ⟨31, _⟩ => ⟨S1x1, .f32⟩
  | .local _ .vmem, ⟨0, _⟩ => ⟨S8x512x80, .f32⟩
  | .local _ .vmem, ⟨1, _⟩ => ⟨S8x1x64, .i32⟩
  | .local _ .vmem, ⟨2, _⟩ => ⟨S8x1, .i32⟩
  | .local _ .vmem, ⟨3, _⟩ => ⟨S8x1, .i32⟩
  | .local _ .vmem, ⟨4, _⟩ => ⟨S80x512, .f32⟩
  | .local _ .vmem, ⟨5, _⟩ => ⟨S1x512, .f32⟩
  | .local _ .vmem, ⟨6, _⟩ => ⟨S512x500, .f32⟩
  | .local _ .vmem, ⟨7, _⟩ => ⟨S512x500, .f32⟩
  | .local _ .vmem, ⟨8, _⟩ => ⟨S512x512, .f32⟩
  | .local _ .vmem, ⟨9, _⟩ => ⟨S520x1, .i32⟩
  | .local _ .vmem, ⟨10, _⟩ => ⟨S520x1, .i32⟩
  | .local _ .vmem, ⟨11, _⟩ => ⟨S500x512, .f32⟩
  | .local _ .vmem, ⟨12, _⟩ => ⟨S512x512, .f32⟩
  | .local _ .vmem, ⟨13, _⟩ => ⟨S512x500, .f32⟩
  | .local _ .vmem, ⟨14, _⟩ => ⟨S512x512, .f32⟩
  | .local _ .vmem, ⟨15, _⟩ => ⟨S512x500, .f32⟩
  | .local _ .vmem, ⟨16, _⟩ => ⟨S8x512x500, .f32⟩
  | .local _ .vmem, ⟨17, _⟩ => ⟨S1x1, .f32⟩
  | .local _ .vmem, ⟨18, _⟩ => ⟨S1x1, .f32⟩
  | .local _ .vmem, ⟨19, _⟩ => ⟨S8x512x512, .f32⟩
  | .local _ .vmem, ⟨20, _⟩ => ⟨S8x72x500, .f32⟩
  | .local _ .vmem, ⟨21, _⟩ => ⟨S8x72x512, .f32⟩
  | .local _ .vmem, ⟨22, _⟩ => ⟨S8x72x500, .f32⟩
  | .local _ .vmem, ⟨23, _⟩ => ⟨S129x8x512, .f32⟩
  | .local _ .vmem, ⟨24, _⟩ => ⟨S576x8x512, .f32⟩
  | .local _ .smem, ⟨0, _⟩ => ⟨S8, .i32⟩
  | .local _ .smem, ⟨1, _⟩ => ⟨S8, .i32⟩
  | _, _ => ⟨S8x512x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12_0 : Ref sig .tc := ⟨.hbm, 29, rfl⟩
abbrev main_v12_1 : Ref sig .tc := ⟨.hbm, 30, rfl⟩
abbrev main_v12_2 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg10_0 : Ref sig .tc := ⟨.vmem, 8, rfl⟩
abbrev cc0_stg11_0 : Ref sig .tc := ⟨.vmem, 9, rfl⟩
abbrev cc0_stg12_0 : Ref sig .tc := ⟨.vmem, 10, rfl⟩
abbrev cc0_stg13_0 : Ref sig .tc := ⟨.vmem, 11, rfl⟩
abbrev cc0_stg14_0 : Ref sig .tc := ⟨.vmem, 12, rfl⟩
abbrev cc0_stg15_0 : Ref sig .tc := ⟨.vmem, 13, rfl⟩
abbrev cc0_stg16_0 : Ref sig .tc := ⟨.vmem, 14, rfl⟩
abbrev cc0_stg17_0 : Ref sig .tc := ⟨.vmem, 15, rfl⟩
abbrev cc0_stg18_0 : Ref sig .tc := ⟨.vmem, 16, rfl⟩
abbrev cc0_stg19_0 : Ref sig .tc := ⟨.vmem, 17, rfl⟩
abbrev cc0_stg20_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_stg4_0 : Ref sig .tc := ⟨.smem, 0, rfl⟩
abbrev cc0_stg5_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

@[reducible] def k0_t1_loop : Scf.Loop 32 :=
  let c1_i32 : BitVec 32 := 1#32
  let c64_i32 : BitVec 32 := 64#32
  let v1064 : BitVec 32 := Scalar.addi c1_i32 c64_i32
  let c1_i32_481 : BitVec 32 := 1#32
  ⟨c1_i32, v1064, c1_i32_481⟩
def k0_off1 (k0_t1 : Fin k0_t1_loop.trips) : Fin 3 → Nat :=
  let c1_i32 : BitVec 32 := 1#32
  let c1_i32_481 : BitVec 32 := 1#32
  let arg27 : BitVec 32 := Scf.iv c1_i32 c1_i32_481 k0_t1
  let c1_i32_946 : BitVec 32 := 1#32
  let v2807 : BitVec 32 := Scalar.subi arg27 c1_i32_946
  let v2808 : Index := Scalar.indexCast v2807
  let c0_947 : Index := 0#32
  let c0_948 : Index := 0#32
  ![v2808.toNat, 0, 0]
def k0_off2 (k0_t1 : Fin k0_t1_loop.trips) : Fin 3 → Nat :=
  let c64_i32_949 : BitVec 32 := 64#32
  let c1_i32 : BitVec 32 := 1#32
  let c1_i32_481 : BitVec 32 := 1#32
  let arg27 : BitVec 32 := Scf.iv c1_i32 c1_i32_481 k0_t1
  let v2812 : BitVec 32 := Scalar.addi c64_i32_949 arg27
  let v2813 : Index := Scalar.indexCast v2812
  let c0_950 : Index := 0#32
  let c0_951 : Index := 0#32
  ![v2813.toNat, 0, 0]
def k0_off3 (k0_t1 : Fin k0_t1_loop.trips) (c0_i32_952 : BitVec 32) : Fin 3 → Nat :=
  let c1_i32 : BitVec 32 := 1#32
  let c1_i32_481 : BitVec 32 := 1#32
  let arg27 : BitVec 32 := Scf.iv c1_i32 c1_i32_481 k0_t1
  let v2816 : BitVec 32 := Scalar.addi c0_i32_952 arg27
  let c1_i32_953 : BitVec 32 := 1#32
  let v2817 : BitVec 32 := Scalar.subi v2816 c1_i32_953
  let v2818 : Index := Scalar.indexCast v2817
  let c0_954 : Index := 0#32
  let c0_955 : Index := 0#32
  ![v2818.toNat, 0, 0]
def k0_off4 (k0_t1 : Fin k0_t1_loop.trips) (c0_i32_952 : BitVec 32) (c64_i32_956 : BitVec 32) : Fin 3 → Nat :=
  let c1_i32 : BitVec 32 := 1#32
  let c1_i32_481 : BitVec 32 := 1#32
  let arg27 : BitVec 32 := Scf.iv c1_i32 c1_i32_481 k0_t1
  let v2816 : BitVec 32 := Scalar.addi c0_i32_952 arg27
  let c1_i32_953 : BitVec 32 := 1#32
  let v2817 : BitVec 32 := Scalar.subi v2816 c1_i32_953
  let v2821 : BitVec 32 := Scalar.addi v2817 c64_i32_956
  let v2822 : Index := Scalar.indexCast v2821
  let c0_957 : Index := 0#32
  let c0_958 : Index := 0#32
  ![v2822.toNat, 0, 0]
abbrev stage0_0 : Fin 1 → Memref sig .tc .vmem S8x512x80 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1x64 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S8 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S8 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S80x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x500 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512x500 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S520x1 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S520x1 .i32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S500x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S512x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S512x500 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S512x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S512x500 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S8x512x500 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== ReferenceIdeal.lean ====
abbrev S8x512x80 : Shape := ⟨3, ![8, 512, 80]⟩
abbrev S8 : Shape := ⟨1, ![8]⟩
abbrev S8x64 : Shape := ⟨2, ![8, 64]⟩
abbrev S80x512 : Shape := ⟨2, ![80, 512]⟩
abbrev S512 : Shape := ⟨1, ![512]⟩
abbrev S500x512 : Shape := ⟨2, ![500, 512]⟩
abbrev S512x512 : Shape := ⟨2, ![512, 512]⟩
abbrev S512x500 : Shape := ⟨2, ![512, 500]⟩
abbrev S8x512x512 : Shape := ⟨3, ![8, 512, 512]⟩
abbrev S1x1x512 : Shape := ⟨3, ![1, 1, 512]⟩
abbrev S8x512x500 : Shape := ⟨3, ![8, 512, 500]⟩
abbrev S_ : Shape := ⟨0, ![]⟩
abbrev S8x512 : Shape := ⟨2, ![8, 512]⟩
abbrev S8x512x1 : Shape := ⟨3, ![8, 512, 1]⟩
abbrev S8x1 : Shape := ⟨2, ![8, 1]⟩
abbrev S8x65 : Shape := ⟨2, ![8, 65]⟩
abbrev S8x65x1 : Shape := ⟨3, ![8, 65, 1]⟩
abbrev S8x65x512 : Shape := ⟨3, ![8, 65, 512]⟩
abbrev S1x512 : Shape := ⟨2, ![1, 512]⟩
abbrev S5 : Shape := ⟨1, ![5]⟩
abbrev S1x5 : Shape := ⟨2, ![1, 5]⟩
abbrev S1x1x5 : Shape := ⟨3, ![1, 1, 5]⟩
abbrev S8x512x5 : Shape := ⟨3, ![8, 512, 5]⟩
abbrev S8x512x5x1 : Shape := ⟨4, ![8, 512, 5, 1]⟩
abbrev S8x512x5x512 : Shape := ⟨4, ![8, 512, 5, 512]⟩
abbrev S8x512x1x512 : Shape := ⟨4, ![8, 512, 1, 512]⟩
abbrev S8x512x5x500 : Shape := ⟨4, ![8, 512, 5, 500]⟩
abbrev S8x512x5x1x1 : Shape := ⟨5, ![8, 512, 5, 1, 1]⟩
abbrev S1 : Shape := ⟨1, ![1]⟩
abbrev S1x1x1x1x1 : Shape := ⟨5, ![1, 1, 1, 1, 1]⟩
abbrev S8x1x1 : Shape := ⟨3, ![8, 1, 1]⟩
abbrev S1x1 : Shape := ⟨2, ![1, 1]⟩

abbrev nBuf : Space → Nat
  | .hbm => 199
  | .vmem => 0
  | .smem => 0
  | _ => 0

abbrev hbmTy0_0 (i : Nat) : BufTy := match i % 128 with
  | 0 => ⟨S8x512x80, .f32⟩
  | 1 => ⟨S8, .i32⟩
  | 2 => ⟨S8x64, .i32⟩
  | 3 => ⟨S8, .i32⟩
  | 4 => ⟨S80x512, .f32⟩
  | 5 => ⟨S512, .f32⟩
  | 6 => ⟨S500x512, .f32⟩
  | 7 => ⟨S512x512, .f32⟩
  | 8 => ⟨S512x512, .f32⟩
  | 9 => ⟨S512x512, .f32⟩
  | 10 => ⟨S512x500, .f32⟩
  | 11 => ⟨S512x500, .f32⟩
  | 12 => ⟨S512x500, .f32⟩
  | 13 => ⟨S512x500, .f32⟩
  | 14 => ⟨S8x512x512, .f32⟩
  | 15 => ⟨S1x1x512, .f32⟩
  | 16 => ⟨S8x512x512, .f32⟩
  | 17 => ⟨S8x512x512, .f32⟩
  | 18 => ⟨S8x512x512, .f32⟩
  | 19 => ⟨S8x512x500, .f32⟩
  | 20 => ⟨S_, .f32⟩
  | 21 => ⟨S8x512, .f32⟩
  | 22 => ⟨S_, .f32⟩
  | 23 => ⟨S8x512, .f32⟩
  | 24 => ⟨S8x512, .f32⟩
  | 25 => ⟨S8x512x1, .f32⟩
  | 26 => ⟨S8x512x500, .f32⟩
  | 27 => ⟨S8x512x500, .f32⟩
  | 28 => ⟨S8x512x500, .f32⟩
  | 29 => ⟨S_, .f32⟩
  | 30 => ⟨S8x512, .f32⟩
  | 31 => ⟨S8x512x1, .f32⟩
  | 32 => ⟨S8x512x1, .f32⟩
  | 33 => ⟨S8x512x500, .f32⟩
  | 34 => ⟨S8x512x500, .f32⟩
  | 35 => ⟨S_, .i32⟩
  | 36 => ⟨S8x1, .i32⟩
  | 37 => ⟨S8x65, .i32⟩
  | 38 => ⟨S_, .i32⟩
  | 39 => ⟨S8x65, .i32⟩
  | 40 => ⟨S8x65, .i1⟩
  | 41 => ⟨S_, .i32⟩
  | 42 => ⟨S8x65, .i32⟩
  | 43 => ⟨S8x65, .i32⟩
  | 44 => ⟨S8x65, .i32⟩
  | 45 => ⟨S8x65x1, .i32⟩
  | 46 => ⟨S8x65x512, .f32⟩
  | 47 => ⟨S8x65x512, .f32⟩
  | 48 => ⟨S8x65x512, .f32⟩
  | 49 => ⟨S512, .i32⟩
  | 50 => ⟨S1x512, .i32⟩
  | 51 => ⟨S8x1, .i32⟩
  | 52 => ⟨S8x512, .i32⟩
  | 53 => ⟨S8x512, .i32⟩
  | 54 => ⟨S8x512, .i32⟩
  | 55 => ⟨S_, .i32⟩
  | 56 => ⟨S8, .i32⟩
  | 57 => ⟨S8, .i32⟩
  | 58 => ⟨S8x1, .i32⟩
  | 59 => ⟨S8x512, .i32⟩
  | 60 => ⟨S8x512, .i32⟩
  | 61 => ⟨S8x512, .i32⟩
  | 62 => ⟨S8, .i32⟩
  | 63 => ⟨S8x1, .i32⟩
  | 64 => ⟨S8x512, .i32⟩
  | 65 => ⟨S8x512, .i1⟩
  | 66 => ⟨S8x1, .i32⟩
  | 67 => ⟨S8x512, .i32⟩
  | 68 => ⟨S8x512, .i32⟩
  | 69 => ⟨S_, .i32⟩
  | 70 => ⟨S8x512, .i32⟩
  | 71 => ⟨S8x512, .i1⟩
  | 72 => ⟨S8x512, .i1⟩
  | 73 => ⟨S_, .i32⟩
  | 74 => ⟨S8x512, .i32⟩
  | 75 => ⟨S8x512, .i32⟩
  | 76 => ⟨S8x512, .i32⟩
  | 77 => ⟨S_, .i32⟩
  | 78 => ⟨S8x512, .i32⟩
  | 79 => ⟨S8x512, .i32⟩
  | 80 => ⟨S_, .i32⟩
  | 81 => ⟨S8, .i32⟩
  | 82 => ⟨S8, .i32⟩
  | 83 => ⟨S_, .i32⟩
  | 84 => ⟨S8, .i32⟩
  | 85 => ⟨S8, .i32⟩
  | 86 => ⟨S_, .i32⟩
  | 87 => ⟨S8, .i32⟩
  | 88 => ⟨S8, .i32⟩
  | 89 => ⟨S_, .i32⟩
  | 90 => ⟨S_, .i32⟩
  | 91 => ⟨S8x512, .i32⟩
  | 92 => ⟨S8x512, .i32⟩
  | 93 => ⟨S8x1, .i32⟩
  | 94 => ⟨S8x512, .i32⟩
  | 95 => ⟨S8x512, .i32⟩
  | 96 => ⟨S8x512x1, .i32⟩
  | 97 => ⟨S5, .i32⟩
  | 98 => ⟨S1x5, .i32⟩
  | 99 => ⟨S1x1x5, .i32⟩
  | 100 => ⟨S8x512x5, .i32⟩
  | 101 => ⟨S8x512x5, .i32⟩
  | 102 => ⟨S8x512x5, .i32⟩
  | 103 => ⟨S8x512x512, .f32⟩
  | 104 => ⟨S8x65x512, .f32⟩
  | 105 => ⟨S_, .i32⟩
  | 106 => ⟨S8x512x5, .i32⟩
  | 107 => ⟨S8x512x5, .i1⟩
  | 108 => ⟨S_, .i32⟩
  | 109 => ⟨S8x512x5, .i32⟩
  | 110 => ⟨S8x512x5, .i32⟩
  | 111 => ⟨S8x512x5, .i32⟩
  | 112 => ⟨S8x512x5x1, .i32⟩
  | 113 => ⟨S8x512x5x512, .f32⟩
  | 114 => ⟨S8x512x1x512, .f32⟩
  | 115 => ⟨S8x512x5x512, .f32⟩
  | 116 => ⟨S8x512x5x512, .f32⟩
  | 117 => ⟨S8x512x5x512, .f32⟩
  | 118 => ⟨S8x512x5x500, .f32⟩
  | 119 => ⟨S_, .f32⟩
  | 120 => ⟨S8x512x5, .f32⟩
  | 121 => ⟨S_, .f32⟩
  | 122 => ⟨S8x512x5, .f32⟩
  | 123 => ⟨S8x512x5, .f32⟩
  | 124 => ⟨S8x512x5x1, .f32⟩
  | 125 => ⟨S8x512x5x500, .f32⟩
  | 126 => ⟨S8x512x5x500, .f32⟩
  | 127 => ⟨S8x512x5x500, .f32⟩
  | _ => ⟨S8x512x80, .f32⟩

abbrev hbmTy0_1 (i : Nat) : BufTy := match i % 128 with
  | 0 => ⟨S_, .f32⟩
  | 1 => ⟨S8x512x5, .f32⟩
  | 2 => ⟨S8x512x5x1, .f32⟩
  | 3 => ⟨S8x512x5x1, .f32⟩
  | 4 => ⟨S8x512x5x500, .f32⟩
  | 5 => ⟨S8x512x5x500, .f32⟩
  | 6 => ⟨S_, .i32⟩
  | 7 => ⟨S8x1, .i32⟩
  | 8 => ⟨S8x65, .i32⟩
  | 9 => ⟨S_, .i32⟩
  | 10 => ⟨S8x512x5, .i32⟩
  | 11 => ⟨S8x512x5, .i1⟩
  | 12 => ⟨S_, .i32⟩
  | 13 => ⟨S8x512x5, .i32⟩
  | 14 => ⟨S8x512x5, .i32⟩
  | 15 => ⟨S8x512x5, .i32⟩
  | 16 => ⟨S8x512x5x1, .i32⟩
  | 17 => ⟨S8x512x5, .i32⟩
  | 18 => ⟨S8x512x5x1, .i32⟩
  | 19 => ⟨S_, .i32⟩
  | 20 => ⟨S8x512x5x1, .i32⟩
  | 21 => ⟨S8x512x5x1, .i1⟩
  | 22 => ⟨S_, .i32⟩
  | 23 => ⟨S8x512x5x1, .i32⟩
  | 24 => ⟨S8x512x5x1, .i32⟩
  | 25 => ⟨S8x512x5x1, .i32⟩
  | 26 => ⟨S8x512x5x1x1, .i32⟩
  | 27 => ⟨S1, .i32⟩
  | 28 => ⟨S_, .i32⟩
  | 29 => ⟨S8x512x5x1x1, .i32⟩
  | 30 => ⟨S8x512x5x1x1, .i1⟩
  | 31 => ⟨S1x1x1x1x1, .i32⟩
  | 32 => ⟨S8x512x5x1x1, .i32⟩
  | 33 => ⟨S8x512x5x1x1, .i1⟩
  | 34 => ⟨S8x512x5x1x1, .i1⟩
  | 35 => ⟨S_, .i1⟩
  | 36 => ⟨S8x512x5x1, .i1⟩
  | 37 => ⟨S8x512x5x1, .f32⟩
  | 38 => ⟨S_, .f32⟩
  | 39 => ⟨S8x512x5x1, .f32⟩
  | 40 => ⟨S8x512x5x1, .f32⟩
  | 41 => ⟨S8x512x5, .f32⟩
  | 42 => ⟨S8x512x5x1, .f32⟩
  | 43 => ⟨S8x512x5, .f32⟩
  | 44 => ⟨S1x512, .i32⟩
  | 45 => ⟨S8x1, .i32⟩
  | 46 => ⟨S8x512, .i32⟩
  | 47 => ⟨S8x512, .i32⟩
  | 48 => ⟨S8x512, .i1⟩
  | 49 => ⟨S8x512x1, .i1⟩
  | 50 => ⟨S8x1x1, .i32⟩
  | 51 => ⟨S8x512x5, .i32⟩
  | 52 => ⟨S8x512x5, .i1⟩
  | 53 => ⟨S8x512x5, .i1⟩
  | 54 => ⟨S8x512x5, .i1⟩
  | 55 => ⟨S_, .f32⟩
  | 56 => ⟨S_, .f32⟩
  | 57 => ⟨S8x512x5, .f32⟩
  | 58 => ⟨S8x512x5, .f32⟩
  | 59 => ⟨S_, .f32⟩
  | 60 => ⟨S_, .f32⟩
  | 61 => ⟨S8x512x5, .i1⟩
  | 62 => ⟨S8x512x5, .f32⟩
  | 63 => ⟨S8x512x5, .f32⟩
  | 64 => ⟨S8x512x5, .f32⟩
  | 65 => ⟨S_, .f32⟩
  | 66 => ⟨S_, .f32⟩
  | 67 => ⟨S_, .f32⟩
  | 68 => ⟨S_, .f32⟩
  | 69 => ⟨S_, .f32⟩
  | 70 => ⟨S1x1, .f32⟩
  | _ => ⟨S8x512x80, .f32⟩

abbrev hbmTy (i : Nat) : BufTy := match i / 128 with
  | 0 => hbmTy0_0 i
  | 1 => hbmTy0_1 i
  | _ => ⟨S8x512x80, .f32⟩

abbrev bufTy : (tb : Table) → Fin (tcTables nBuf tb) → BufTy
  | .hbm, ⟨i, _⟩ => hbmTy i
  | _, _ => ⟨S8x512x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call0_cst : Ref sig .tc := ⟨.hbm, 20, rfl⟩
abbrev main_call0_v0 : Ref sig .tc := ⟨.hbm, 21, rfl⟩
abbrev main_call0_cst_0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_cst_1 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_v6 : Ref sig .tc := ⟨.hbm, 34, rfl⟩
abbrev main_c : Ref sig .tc := ⟨.hbm, 35, rfl⟩
abbrev main_v7 : Ref sig .tc := ⟨.hbm, 36, rfl⟩
abbrev main_v8 : Ref sig .tc := ⟨.hbm, 37, rfl⟩
abbrev main_c_0 : Ref sig .tc := ⟨.hbm, 38, rfl⟩
abbrev main_v9 : Ref sig .tc := ⟨.hbm, 39, rfl⟩
abbrev main_v10 : Ref sig .tc := ⟨.hbm, 40, rfl⟩
abbrev main_c_1 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_c_2 : Ref sig .tc := ⟨.hbm, 55, rfl⟩
abbrev main_v24 : Ref sig .tc := ⟨.hbm, 56, rfl⟩
abbrev main_v25 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_c : Ref sig .tc := ⟨.hbm, 69, rfl⟩
abbrev main_call1_v11 : Ref sig .tc := ⟨.hbm, 70, rfl⟩
abbrev main_call1_v12 : Ref sig .tc := ⟨.hbm, 71, rfl⟩
abbrev main_call1_v13 : Ref sig .tc := ⟨.hbm, 72, rfl⟩
abbrev main_call1_c_0 : Ref sig .tc := ⟨.hbm, 73, rfl⟩
abbrev main_call1_v14 : Ref sig .tc := ⟨.hbm, 74, rfl⟩
abbrev main_call1_v15 : Ref sig .tc := ⟨.hbm, 75, rfl⟩
abbrev main_v26 : Ref sig .tc := ⟨.hbm, 76, rfl⟩
abbrev main_c_3 : Ref sig .tc := ⟨.hbm, 77, rfl⟩
abbrev main_v27 : Ref sig .tc := ⟨.hbm, 78, rfl⟩
abbrev main_v28 : Ref sig .tc := ⟨.hbm, 79, rfl⟩
abbrev main_c_4 : Ref sig .tc := ⟨.hbm, 80, rfl⟩
abbrev main_v29 : Ref sig .tc := ⟨.hbm, 81, rfl⟩
abbrev main_v30 : Ref sig .tc := ⟨.hbm, 82, rfl⟩
abbrev main_c_5 : Ref sig .tc := ⟨.hbm, 83, rfl⟩
abbrev main_v31 : Ref sig .tc := ⟨.hbm, 84, rfl⟩
abbrev main_v32 : Ref sig .tc := ⟨.hbm, 85, rfl⟩
abbrev main_c_6 : Ref sig .tc := ⟨.hbm, 86, rfl⟩
abbrev main_v33 : Ref sig .tc := ⟨.hbm, 87, rfl⟩
abbrev main_v34 : Ref sig .tc := ⟨.hbm, 88, rfl⟩
abbrev main_c_7 : Ref sig .tc := ⟨.hbm, 89, rfl⟩
abbrev main_call2_v0 : Ref sig .tc := ⟨.hbm, 90, rfl⟩
abbrev main_call2_v1 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_c_8 : Ref sig .tc := ⟨.hbm, 105, rfl⟩
abbrev main_v45 : Ref sig .tc := ⟨.hbm, 106, rfl⟩
abbrev main_v46 : Ref sig .tc := ⟨.hbm, 107, rfl⟩
abbrev main_c_9 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_call3_cst : Ref sig .tc := ⟨.hbm, 119, rfl⟩
abbrev main_call3_v0 : Ref sig .tc := ⟨.hbm, 120, rfl⟩
abbrev main_call3_cst_0 : Ref sig .tc := ⟨.hbm, 121, rfl⟩
abbrev main_call3_v1 : Ref sig .tc := ⟨.hbm, 122, rfl⟩
abbrev main_call3_v2 : Ref sig .tc := ⟨.hbm, 123, rfl⟩
abbrev main_call3_v3 : Ref sig .tc := ⟨.hbm, 124, rfl⟩
abbrev main_call3_v4 : Ref sig .tc := ⟨.hbm, 125, rfl⟩
abbrev main_call3_v5 : Ref sig .tc := ⟨.hbm, 126, rfl⟩
abbrev main_call3_v6 : Ref sig .tc := ⟨.hbm, 127, rfl⟩
abbrev main_call3_cst_1 : Ref sig .tc := ⟨.hbm, 128, rfl⟩
abbrev main_call3_v7 : Ref sig .tc := ⟨.hbm, 129, rfl⟩
abbrev main_call3_v8 : Ref sig .tc := ⟨.hbm, 130, rfl⟩
abbrev main_call3_v9 : Ref sig .tc := ⟨.hbm, 131, rfl⟩
abbrev main_call3_v10 : Ref sig .tc := ⟨.hbm, 132, rfl⟩
abbrev main_v57 : Ref sig .tc := ⟨.hbm, 133, rfl⟩
abbrev main_c_10 : Ref sig .tc := ⟨.hbm, 134, rfl⟩
abbrev main_v58 : Ref sig .tc := ⟨.hbm, 135, rfl⟩
abbrev main_v59 : Ref sig .tc := ⟨.hbm, 136, rfl⟩
abbrev main_c_11 : Ref sig .tc := ⟨.hbm, 137, rfl⟩
abbrev main_v60 : Ref sig .tc := ⟨.hbm, 138, rfl⟩
abbrev main_v61 : Ref sig .tc := ⟨.hbm, 139, rfl⟩
abbrev main_c_12 : Ref sig .tc := ⟨.hbm, 140, rfl⟩
abbrev main_v62 : Ref sig .tc := ⟨.hbm, 141, rfl⟩
abbrev main_v63 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_call4_c : Ref sig .tc := ⟨.hbm, 147, rfl⟩
abbrev main_call4_v0 : Ref sig .tc := ⟨.hbm, 148, rfl⟩
abbrev main_call4_v1 : Ref sig .tc := ⟨.hbm, 149, rfl⟩
abbrev main_call4_c_0 : Ref sig .tc := ⟨.hbm, 150, rfl⟩
abbrev main_call4_v2 : Ref sig .tc := ⟨.hbm, 151, rfl⟩
abbrev main_call4_v3 : Ref sig .tc := ⟨.hbm, 152, rfl⟩
abbrev main_call4_v4 : Ref sig .tc := ⟨.hbm, 153, rfl⟩
abbrev main_call4_v5 : Ref sig .tc := ⟨.hbm, 154, rfl⟩
abbrev main_call4_c_1 : Ref sig .tc := ⟨.hbm, 155, rfl⟩
abbrev main_call4_c_2 : Ref sig .tc := ⟨.hbm, 156, rfl⟩
abbrev main_call4_v6 : Ref sig .tc := ⟨.hbm, 157, rfl⟩
abbrev main_call4_v7 : Ref sig .tc := ⟨.hbm, 158, rfl⟩
abbrev main_call4_v8 : Ref sig .tc := ⟨.hbm, 159, rfl⟩
abbrev main_call4_v9 : Ref sig .tc := ⟨.hbm, 160, rfl⟩
abbrev main_call4_v10 : Ref sig .tc := ⟨.hbm, 161, rfl⟩
abbrev main_call4_v11 : Ref sig .tc := ⟨.hbm, 162, rfl⟩
abbrev main_call4_c_3 : Ref sig .tc := ⟨.hbm, 163, rfl⟩
abbrev main_call4_v12 : Ref sig .tc := ⟨.hbm, 164, rfl⟩
abbrev main_call4_v13 : Ref sig .tc := ⟨.hbm, 165, rfl⟩
abbrev main_call4_cst : Ref sig .tc := ⟨.hbm, 166, rfl⟩
abbrev main_call4_v14 : Ref sig .tc := ⟨.hbm, 167, rfl⟩
abbrev main_v68 : Ref sig .tc := ⟨.hbm, 168, rfl⟩
abbrev main_v69 : Ref sig .tc := ⟨.hbm, 169, rfl⟩
abbrev main_v70 : Ref sig .tc := ⟨.hbm, 170, rfl⟩
abbrev main_v71 : Ref sig .tc := ⟨.hbm, 171, rfl⟩
abbrev main_v72 : Ref sig .tc := ⟨.hbm, 172, rfl⟩
abbrev main_v73 : Ref sig .tc := ⟨.hbm, 173, rfl⟩
abbrev main_v74 : Ref sig .tc := ⟨.hbm, 174, rfl⟩
abbrev main_v75 : Ref sig .tc := ⟨.hbm, 175, rfl⟩
abbrev main_v76 : Ref sig .tc := ⟨.hbm, 176, rfl⟩
abbrev main_v77 : Ref sig .tc := ⟨.hbm, 177, rfl⟩
abbrev main_v78 : Ref sig .tc := ⟨.hbm, 178, rfl⟩
abbrev main_v79 : Ref sig .tc := ⟨.hbm, 179, rfl⟩
abbrev main_v80 : Ref sig .tc := ⟨.hbm, 180, rfl⟩
abbrev main_v81 : Ref sig .tc := ⟨.hbm, 181, rfl⟩
abbrev main_v82 : Ref sig .tc := ⟨.hbm, 182, rfl⟩
abbrev main_cst : Ref sig .tc := ⟨.hbm, 183, rfl⟩
abbrev main_call5_v0 : Ref sig .tc := ⟨.hbm, 184, rfl⟩
abbrev main_call5_v1 : Ref sig .tc := ⟨.hbm, 185, rfl⟩
abbrev main_v83 : Ref sig .tc := ⟨.hbm, 186, rfl⟩
abbrev main_cst_13 : Ref sig .tc := ⟨.hbm, 187, rfl⟩
abbrev main_call6_v0 : Ref sig .tc := ⟨.hbm, 188, rfl⟩
abbrev main_call6_v1 : Ref sig .tc := ⟨.hbm, 189, rfl⟩
abbrev main_call6_v2 : Ref sig .tc := ⟨.hbm, 190, rfl⟩
abbrev main_v84 : Ref sig .tc := ⟨.hbm, 191, rfl⟩
abbrev main_v85 : Ref sig .tc := ⟨.hbm, 192, rfl⟩
abbrev main_cst_14 : Ref sig .tc := ⟨.hbm, 193, rfl⟩
abbrev main_v86 : Ref sig .tc := ⟨.hbm, 194, rfl⟩
abbrev main_v87 : Ref sig .tc := ⟨.hbm, 195, rfl⟩
abbrev main_cst_15 : Ref sig .tc := ⟨.hbm, 196, rfl⟩
abbrev main_v88 : Ref sig .tc := ⟨.hbm, 197, rfl⟩
abbrev main_v89 : Ref sig .tc := ⟨.hbm, 198, rfl⟩

abbrev nD : Nat := 1
abbrev τ : Topo := Topo.v7x

variable {F : FTy → Type} [FloatOps F]
-- ==== Proof.Spec.lean ====
module

public import proofs.«01_k».proof.ReferenceIdeal
public import Idealize.ShloMosaic.Lib.Pointwise

@[expose] public section

set_option maxRecDepth 16384

noncomputable section

open Idealize.ShloMosaic

namespace Cert.Spec

open Cert.ReferenceIdeal

/-- The log softmax of a row, at one of its columns. -/
def lsm (L : Fin 500 → EReal) (v : Fin 500) : EReal :=
  (L v - Finset.univ.fold max ⊥ L) - Ideal.log (∑ k, Ideal.exp (L k - Finset.univ.fold max ⊥ L))

/-- The encoder's output. -/
def enc (x : FVec Ideal S8x512x80 .f32) (w : FVec Ideal S80x512 .f32) (bias : FVec Ideal S512 .f32)
    (b : Fin 8) (t d : Fin 512) : EReal :=
  Ideal.tanh (∑ f : Fin 80, x (ix3 b t f) * w (ix2 f d) + bias (ix1 d))

/-- A row of encoder outputs times a matrix. -/
def encmul {n : ℕ} (x : FVec Ideal S8x512x80 .f32) (w : FVec Ideal S80x512 .f32) (bias : FVec Ideal S512 .f32)
    (c : FVec Ideal ⟨2, ![512, n]⟩ .f32) (b : Fin 8) (t : Fin 512) (v : Fin n) : EReal :=
  ∑ d : Fin 512, enc x w bias b t d * c (ix2 d v)

/-- The labels with the start symbol in front. -/
def sos (y : IVec S8x64 32) (b : Fin 8) (u : Fin 65) : BitVec 32 :=
  if h : u.val = 0 then 0#32 else y (ix2 b ⟨u.val - 1, by omega⟩)

/-- The labels with a blank at the end. -/
def ext (y : IVec S8x64 32) (b : Fin 8) (u : Fin 65) : BitVec 32 :=
  if h : u.val < 64 then y (ix2 b ⟨u.val, h⟩) else 0#32

/-- A number as a position below `n + 1`. -/
def cap (n k : ℕ) : Fin (n + 1) := ⟨min k n, by omega⟩

/-- The decoder's output. -/
def dec (emb : FVec Ideal S500x512 .f32) (w : FVec Ideal S512x512 .f32) (y : IVec S8x64 32)
    (b : Fin 8) (u : Fin 65) (d : Fin 512) : EReal :=
  Ideal.tanh (∑ k : Fin 512, emb (ix2 (cap 499 (sos y b u).toNat) k) * w (ix2 k d))

/-- The decoder's output, projected. -/
def lmp (emb : FVec Ideal S500x512 .f32) (w jd : FVec Ideal S512x512 .f32) (y : IVec S8x64 32)
    (b : Fin 8) (u : Fin 65) (e : Fin 512) : EReal :=
  ∑ d : Fin 512, dec emb w y b u d * jd (ix2 d e)

/-- The first position of the band at a frame, for a number of frames and of labels. -/
def start (tl ul : ℕ) (t : Fin 512) : ℕ := min (ul - 4) (t.val * ul / tl - 2)

/-- The logits at a frame and a position. -/
def logit (am : Fin 8 → Fin 512 → Fin 512 → EReal) (lm : Fin 8 → Fin 65 → Fin 512 → EReal)
    (jo : FVec Ideal S512x500 .f32) (b : Fin 8) (t : Fin 512) (u : Fin 65) (v : Fin 500) : EReal :=
  ∑ d : Fin 512, Ideal.tanh (am b t d + lm b u d) * jo (ix2 d v)

/-- What one frame and one position of the band of one batch add to the pruned loss. -/
def cell (lg : Fin 512 → Fin 65 → Fin 500 → EReal) (sym : Fin 65 → Fin 500) (tl ul : ℕ) (t : Fin 512) (s : Fin 5) : EReal :=
  (if t.val < tl ∧ start tl ul t + s.val < ul then
      lsm (lg t (cap 64 (start tl ul t + s.val))) (sym (cap 64 (start tl ul t + s.val))) else 0)
    + (if t.val < tl then lsm (lg t (cap 64 (start tl ul t + s.val))) 0 else 0)

/-- What one frame and one position of the band add to the pruned loss. -/
def term (lg : Fin 8 → Fin 512 → Fin 65 → Fin 500 → EReal) (y : IVec S8x64 32) (tl ul : ℕ)
    (b : Fin 8) (t : Fin 512) (s : Fin 5) : EReal :=
  cell (lg b) (fun u => cap 499 (ext y b u).toNat) tl ul t s

end Cert.Spec

end
-- ==== Proof.Words.lean ====
module

public import proofs.«01_k».proof.Proof.Spec

@[expose] public section

noncomputable section

open Idealize.ShloMosaic

namespace Cert.Words

open Cert.Spec

/-- The pattern of negative infinity. -/
theorem ofBits_bot : Ideal.ofBits FTy.f32 4286578688#32 = ⊥ := by
  simp [Ideal.ofBits, Ideal.ieee]

/-- A small number read back from its word. -/
theorem toNat_small {n : ℕ} (h : n < 2147483648) : (BitVec.ofNat 32 n).toNat = n := by
  rw [BitVec.toNat_ofNat]; omega

/-- A small number read back from its word, signed. -/
theorem toInt_small {n : ℕ} (h : n < 2147483648) : (BitVec.ofNat 32 n).toInt = n := by
  rw [BitVec.toInt_eq_toNat_of_lt (by rw [toNat_small h]; omega), toNat_small h]

/-- Signed order of small words. -/
theorem slt_small {m n : ℕ} (hm : m < 2147483648) (hn : n < 2147483648) :
    (BitVec.ofNat 32 m).slt (BitVec.ofNat 32 n) = decide (m < n) := by
  rw [BitVec.slt, toInt_small hm, toInt_small hn]; simp

/-- The greater of two small words. -/
theorem maxsi_small {m n : ℕ} (hm : m < 2147483648) (hn : n < 2147483648) :
    IntOp.maxsi (BitVec.ofNat 32 m) (BitVec.ofNat 32 n) = BitVec.ofNat 32 (max m n) := by
  unfold IntOp.maxsi
  rw [slt_small hn hm]
  by_cases h : n < m
  · simp [h, max_eq_left h.le]
  · simp [h, max_eq_right (not_lt.mp h)]

/-- The smaller of two small words. -/
theorem minsi_small {m n : ℕ} (hm : m < 2147483648) (hn : n < 2147483648) :
    IntOp.minsi (BitVec.ofNat 32 m) (BitVec.ofNat 32 n) = BitVec.ofNat 32 (min m n) := by
  unfold IntOp.minsi
  rw [slt_small hm hn]
  by_cases h : m < n
  · simp [h, min_eq_left h.le]
  · simp [h, min_eq_right (not_lt.mp h)]

/-- A sum of words of numbers. -/
theorem addi_small (m n : ℕ) : IntOp.addi (BitVec.ofNat 32 m) (BitVec.ofNat 32 n) = BitVec.ofNat 32 (m + n) := by
  unfold IntOp.addi; exact (BitVec.ofNat_add m n).symm

/-- A difference of words of numbers. -/
theorem subi_small {m n : ℕ} (h : n ≤ m) : IntOp.subi (BitVec.ofNat 32 m) (BitVec.ofNat 32 n) = BitVec.ofNat 32 (m - n) := by
  unfold IntOp.subi
  obtain ⟨k, rfl⟩ := Nat.exists_eq_add_of_le h
  rw [BitVec.ofNat_add, Nat.add_sub_cancel_left, BitVec.add_comm, BitVec.add_sub_cancel]

/-- A difference of words of numbers, kept from below at zero. -/
theorem max_subi_small {m n : ℕ} (hm : m < 1073741824) (hn : n < 1073741824) :
    IntOp.maxsi 0#32 (IntOp.subi (BitVec.ofNat 32 m) (BitVec.ofNat 32 n)) = BitVec.ofNat 32 (m - n) := by
  by_cases h : n ≤ m
  · rw [subi_small h]
    exact (maxsi_small (m := 0) (by omega) (by omega)).trans (by rw [Nat.zero_max])
  · unfold IntOp.maxsi IntOp.subi
    have : (BitVec.ofNat 32 m - BitVec.ofNat 32 n).slt 0#32 = true := by
      rw [BitVec.slt]
      have e : (BitVec.ofNat 32 m - BitVec.ofNat 32 n).toInt = (m : ℤ) - n := by
        rw [BitVec.toInt_sub, toInt_small (by omega), toInt_small (by omega)]
        refine Int.bmod_eq_of_le (by omega) (by omega)
      rw [e]; simp; omega
    rw [this, if_pos rfl, show m - n = 0 by omega]

/-- A word is the word of its number. -/
theorem ofNat_toNat (w : BitVec 32) : BitVec.ofNat 32 w.toNat = w := by simp

/-- The band's first position from the quotient's word. -/
theorem start_word {tl ul : BitVec 32} (hu : 32 ≤ ul.toNat ∧ ul.toNat ≤ 64) (ht : 256 ≤ tl.toNat ∧ tl.toNat ≤ 512) (t : Fin 512) :
    IntOp.minsi (IntOp.maxsi (IntOp.subi (IntOp.addi ul 1#32) 5#32) 0#32)
      (IntOp.maxsi 0#32 (IntOp.subi (BitVec.ofNat 32 (t.val * ul.toNat / tl.toNat)) 2#32))
    = BitVec.ofNat 32 (start tl.toNat ul.toNat t) := by
  obtain ⟨u, hu'⟩ : ∃ u, u = ul.toNat := ⟨_, rfl⟩
  obtain ⟨q, hq⟩ : ∃ q, q = t.val * ul.toNat / tl.toNat := ⟨_, rfl⟩
  have hq2 : q ≤ 32704 := by
    rw [hq]; refine (Nat.div_le_self _ _).trans ?_
    have := t.isLt; nlinarith
  unfold start
  rw [← hq, ← hu', max_subi_small (by omega) (by omega)]
  have e : ul = BitVec.ofNat 32 u := by rw [hu', ofNat_toNat]
  rw [e, addi_small, subi_small (by omega), maxsi_small (by omega) (by omega), minsi_small (by omega) (by omega)]
  congr 2; omega

/-- The host's floor quotient of small words. -/
theorem floor_div {m n : ℕ} (hm : m < 1073741824) (hn : 0 < n) (hn2 : n < 1073741824) :
    IntOp.divsi .host (BitVec.ofNat 32 m) (BitVec.ofNat 32 n) = BitVec.ofNat 32 (m / n) := by
  unfold IntOp.divsi
  have hc : ¬ IntOp.SDivCorner (BitVec.ofNat 32 m) (BitVec.ofNat 32 n) := by
    unfold IntOp.SDivCorner
    rintro (h | ⟨h, -⟩)
    · have := congrArg BitVec.toNat h; rw [toNat_small (by omega)] at this; simp at this; omega
    · have := congrArg BitVec.toNat h; rw [toNat_small (by omega)] at this
      rw [this] at hm; revert hm; decide
  rw [if_neg hc]
  apply BitVec.eq_of_toInt_eq
  rw [BitVec.toInt_sdiv_of_ne_or_ne _ _ (by right; intro h; have := congrArg BitVec.toNat h; rw [toNat_small (by omega)] at this; revert this; simp; omega),
    toInt_small (by omega), toInt_small (by omega), toInt_small (lt_of_le_of_lt (Nat.div_le_self _ _) (by omega))]
  rw [Int.tdiv_eq_ediv_of_nonneg (by omega)]; simp

/-- The sign word of a small word. -/
theorem sign_small {n : ℕ} (hn : n < 2147483648) (h0 : 0 < n) :
    (if BitVec.ofNat 32 n = 0 then (0 : BitVec 32) else if (BitVec.ofNat 32 n).msb = true then -1 else 1) = 1 := by
  have h1 : BitVec.ofNat 32 n ≠ 0 := by
    intro h; have := congrArg BitVec.toNat h; rw [toNat_small hn] at this; simp at this; omega
  have h2 : (BitVec.ofNat 32 n).msb = false := by
    rw [BitVec.msb_eq_false_iff_two_mul_lt, toNat_small hn]; omega
  rw [if_neg h1, h2]; simp

/-- The floor quotient as the host writes it: the truncated one, less one where the signs differ and it is not exact. -/
theorem floor_select {m n : ℕ} (hm : m < 1073741824) (hn : 0 < n) (hn2 : n < 1073741824) :
    Scalar.select
      (IntOp.andi
        (IntOp.cmpi .ne
          (if BitVec.ofNat 32 m = 0 then (0 : BitVec 32) else if (BitVec.ofNat 32 m).msb = true then -1 else 1)
          (if BitVec.ofNat 32 n = 0 then (0 : BitVec 32) else if (BitVec.ofNat 32 n).msb = true then -1 else 1))
        (IntOp.cmpi .ne (IntOp.remsi .host (BitVec.ofNat 32 m) (BitVec.ofNat 32 n)) 0#32))
      (IntOp.subi (IntOp.divsi .host (BitVec.ofNat 32 m) (BitVec.ofNat 32 n)) 1#32)
      (IntOp.divsi .host (BitVec.ofNat 32 m) (BitVec.ofNat 32 n))
    = BitVec.ofNat 32 (m / n) := by
  rw [floor_div hm hn hn2, sign_small (by omega) hn]
  unfold Scalar.select
  rw [if_neg]
  rcases Nat.eq_zero_or_pos m with rfl | h
  · have hc : ¬ IntOp.SDivCorner (BitVec.ofNat 32 0) (BitVec.ofNat 32 n) := by
      unfold IntOp.SDivCorner
      rintro (h | ⟨h, -⟩)
      · have := congrArg BitVec.toNat h; rw [toNat_small (by omega)] at this; simp at this; omega
      · revert h; decide
    have : IntOp.remsi .host (BitVec.ofNat 32 0) (BitVec.ofNat 32 n) = 0#32 := by
      unfold IntOp.remsi
      rw [if_neg hc]
      exact BitVec.zero_srem
    rw [this]
    simp [IntOp.andi, IntOp.cmpi]
  · rw [sign_small (by omega) h]
    simp [IntOp.andi, IntOp.cmpi]

/-- The floor quotient by way of a quotient of reals. -/
theorem center_word {m n : ℕ} (hm : m < 1073741824) (hn : 0 < n) :
    FloatOps.fptosi (F := Ideal) (φ := .f32) 32 (Ideal.liftRound Int.floor (Ideal.div (((m : ℝ)) : EReal) ((n : ℝ) : EReal)))
      = BitVec.ofNat 32 (m / n) := by
  have e : Ideal.div ((m : ℝ) : EReal) ((n : ℝ) : EReal) = (((m : ℝ) / n : ℝ) : EReal) := by
    unfold Ideal.div
    rw [if_neg (by simp; omega), div_eq_mul_inv, EReal.coe_mul, EReal.coe_inv]
  rw [e, Ideal.liftRound_coe]
  show Ideal.fptosi 32 _ = _
  unfold Ideal.fptosi
  rw [Ideal.toIntClamped_coe]
  have f : ⌊(m : ℝ) / n⌋ = ((m / n : ℕ) : ℤ) := by
    have hn' : (0 : ℝ) < n := by exact_mod_cast hn
    rw [Int.floor_eq_iff, le_div_iff₀ hn', div_lt_iff₀ hn']
    have h1 : m / n * n ≤ m := Nat.div_mul_le_self m n
    have h2 : m < (m / n + 1) * n := by rw [mul_comm]; exact Nat.lt_mul_div_succ m hn
    exact ⟨by exact_mod_cast h1, by exact_mod_cast h2⟩
  rw [f]
  have hq : m / n < 1073741824 := lt_of_le_of_lt (Nat.div_le_self _ _) hm
  have g : ⌊(((m / n : ℕ) : ℤ) : ℝ)⌋ = ((m / n : ℕ) : ℤ) := Int.floor_intCast _
  rw [if_pos (by positivity), g]
  have hz : (0 : ℤ) ≤ ((m / n : ℕ) : ℤ) := Int.natCast_nonneg _
  generalize m / n = q at *
  rw [show max (-((2 ^ (32 - 1) : ℕ) : ℤ)) (min (((2 ^ (32 - 1) : ℕ) : ℤ) - 1) (q : ℤ)) = (q : ℤ) by norm_num; omega]
  simp

/-- A number read from a small word. -/
theorem sitofp_small {n : ℕ} (h : n < 2147483648) :
    FloatOps.sitofp (F := Ideal) .f32 (BitVec.ofNat 32 n) = ((n : ℝ) : EReal) := by
  show ((((BitVec.ofNat 32 n).toInt : ℤ) : ℝ) : EReal) = _
  rw [toInt_small h]; simp

/-- One bit as a number. -/
theorem bit_num (c : BitVec 1) : FloatOps.sitofp (F := Ideal) .f32 (BitVec.setWidth 32 c) = if c = 1 then 1 else 0 := by
  show ((((BitVec.setWidth 32 c).toInt : ℤ) : ℝ) : EReal) = _
  by_cases h : c = 1
  · subst h; simp
  · have : c = 0 := by
      have := c.isLt; apply BitVec.eq_of_toNat_eq
      have h2 : c.toNat ≠ 1 := fun e => h (BitVec.eq_of_toNat_eq e)
      show c.toNat = 0
      omega
    subst this; simp

/-- Whether one small word is below another. -/
theorem slt_bit {m n : ℕ} (hm : m < 2147483648) (hn : n < 2147483648) :
    (IntOp.cmpi .slt (BitVec.ofNat 32 m) (BitVec.ofNat 32 n) = 1) ↔ m < n := by
  unfold IntOp.cmpi
  simp only [slt_small hm hn]
  by_cases h : m < n <;> simp [h]

/-- Whether two small words are equal. -/
theorem eq_bit {m n : ℕ} (hm : m < 2147483648) (hn : n < 2147483648) :
    (IntOp.cmpi .eq (BitVec.ofNat 32 m) (BitVec.ofNat 32 n) = 1) ↔ m = n := by
  unfold IntOp.cmpi
  by_cases h : m = n
  · subst h; simp
  · have : BitVec.ofNat 32 m ≠ BitVec.ofNat 32 n := fun e => h (by
      have := congrArg BitVec.toNat e; rwa [toNat_small hm, toNat_small hn] at this)
    have e : (BitVec.ofNat 32 m == BitVec.ofNat 32 n) = false := beq_eq_false_iff_ne.mpr this
    simp only [e, h, iff_false]
    decide

end Cert.Words

end
-- ==== Proof.Reals.lean ====
module

public import proofs.«01_k».proof.Proof.Words

@[expose] public section

noncomputable section

open Idealize.ShloMosaic

namespace Cert.Reals

open Cert.ReferenceIdeal Cert.Spec

/-- The value is a real number. -/
def IsReal (x : EReal) : Prop := ∃ r : ℝ, x = r

/-- Neither infinity is a real number. -/
theorem isReal_of_ne {x : EReal} (h : x ≠ ⊥) (h' : x ≠ ⊤) : IsReal x :=
  ⟨x.toReal, (EReal.coe_toReal h' h).symm⟩

/-- A hyperbolic tangent is a real number. -/
theorem isReal_tanh (x : EReal) : IsReal (Ideal.tanh x) := by
  induction x with
  | bot => exact ⟨-1, by show (-1 : EReal) = _; simp⟩
  | top => exact ⟨1, by show (1 : EReal) = _; simp⟩
  | coe r => exact ⟨Real.tanh r, rfl⟩

/-- A product of real numbers is one. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- A sum of real numbers is one. -/
theorem isReal_sum {n : ℕ} (f : Fin n → EReal) (h : ∀ k, IsReal (f k)) : IsReal (∑ k, f k) := by
  refine Finset.sum_induction f IsReal ?_ ⟨0, by simp⟩ fun k _ => h k
  rintro _ _ ⟨a, rfl⟩ ⟨b, rfl⟩
  exact ⟨a + b, (EReal.coe_add a b).symm⟩

/-- The greatest entry of a row of real numbers is one. -/
theorem isReal_max (L : Fin 500 → EReal) (h : ∀ k, IsReal (L k)) : IsReal (Finset.univ.fold max ⊥ L) := by
  refine isReal_of_ne (bot_lt_iff_ne_bot.1 ?_) (lt_top_iff_ne_top.1 ?_)
  · obtain ⟨r, e⟩ := h 0
    rw [Finset.lt_fold_max]
    exact .inr ⟨0, Finset.mem_univ _, e ▸ EReal.bot_lt_coe r⟩
  · rw [Finset.fold_max_lt]
    refine ⟨bot_lt_top, fun k _ => ?_⟩
    obtain ⟨r, e⟩ := h k
    rw [e]
    exact EReal.coe_lt_top r

/-- Two ways to take away a logarithm and a maximum. -/
theorem sub_swap {a m : EReal} (l : EReal) (ha : IsReal a) (hm : IsReal m) : a - (l + m) = (a - m) - l := by
  obtain ⟨a, rfl⟩ := ha
  obtain ⟨m, rfl⟩ := hm
  induction l with
  | bot => rw [EReal.bot_add, ← EReal.coe_sub, EReal.coe_sub_bot, EReal.coe_sub_bot]
  | top => rw [EReal.top_add_coe, ← EReal.coe_sub, sub_eq_add_neg, sub_eq_add_neg, EReal.neg_top, EReal.add_bot, EReal.add_bot]
  | coe r =>
    rw [← EReal.coe_add, ← EReal.coe_sub, ← EReal.coe_sub, ← EReal.coe_sub]
    congr 1
    ring

/-- The log softmax of a row of real numbers, from the logarithm of its sum of exponentials. -/
theorem lsm_eq (L : Fin 500 → EReal) (h : ∀ k, IsReal (L k)) (v : Fin 500) :
    L v - (Ideal.log (∑ k, Ideal.exp (L k - Finset.univ.fold max ⊥ L)) + Finset.univ.fold max ⊥ L) = lsm L v :=
  sub_swap _ (h v) (isReal_max L h)

/-- The logits are real numbers when the output matrix is one of real numbers. -/
theorem isReal_logit (am : Fin 8 → Fin 512 → Fin 512 → EReal) (lm : Fin 8 → Fin 65 → Fin 512 → EReal)
    (jo : FVec Ideal S512x500 .f32) (h : ∀ d v, IsReal (jo (ix2 d v))) (b : Fin 8) (t : Fin 512) (u : Fin 65) (v : Fin 500) :
    IsReal (logit am lm jo b t u v) :=
  isReal_sum _ fun d => isReal_mul (isReal_tanh _) (h d v)

/-- The logits of the ctc head are real numbers when its matrix is one of real numbers. -/
theorem isReal_ctc (x : FVec Ideal S8x512x80 .f32) (w : FVec Ideal S80x512 .f32) (bias : FVec Ideal S512 .f32)
    (c : FVec Ideal S512x500 .f32) (h : ∀ d v, IsReal (c (ix2 d v))) (b : Fin 8) (t : Fin 512) (v : Fin 500) :
    IsReal (encmul (n := 500) x w bias c b t v) :=
  isReal_sum _ fun d => isReal_mul (isReal_tanh _) (h d v)

end Cert.Reals

end
-- ==== Proof.Pre.lean ====
module

public import proofs.«01_k».proof.Pre_inputs_in_range
public import proofs.«01_k».proof.Proof.Reals
public import Idealize.ShloMosaic.Lib.Pointwise

@[expose] public section

noncomputable section

open Idealize.ShloMosaic

namespace Cert.Pre_inputs_in_range

open Cert.Reals

variable [Facts]

/-- The pattern of positive infinity. -/
theorem ofBits_top : Ideal.ofBits FTy.f32 2139095040#32 = ⊤ := by
  simp [Ideal.ofBits, Ideal.ieee]

/-- Two words' signed order read off a conjunction of comparisons. -/
theorem range_of (x a b : BitVec 32) (p : IntOp.andi (IntOp.cmpi .sge x a) (IntOp.cmpi .sle x b) = 1#1) :
    a.toInt ≤ x.toInt ∧ x.toInt ≤ b.toInt := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simpa only [IntOp.cmpi, andi_ofBool, ofBool_eq_one, Bool.and_eq_true, BitVec.sle, decide_eq_true_eq] using p

/-- The same with a strict upper bound. -/
theorem range_of' (x a b : BitVec 32) (p : IntOp.andi (IntOp.cmpi .sge x a) (IntOp.cmpi .slt x b) = 1#1) :
    a.toInt ≤ x.toInt ∧ x.toInt < b.toInt := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simpa only [IntOp.cmpi, andi_ofBool, ofBool_eq_one, Bool.and_eq_true, BitVec.sle, BitVec.slt, decide_eq_true_eq] using p

/-- A number whose absolute value is below infinity is real. -/
theorem real_of (x : Ideal .f32) (p : FloatOps.cmpf .olt (FloatOps.hostAbsf x) (Ideal.ofBits .f32 2139095040#32) = 1#1) : IsReal x := by
  rw [ofBits_top] at p
  replace p : BitVec.ofBool (decide (max (x : EReal) (-(x : EReal)) < ⊤)) = 1#1 := p
  have q : max (x : EReal) (-(x : EReal)) < ⊤ := by
    by_contra n
    rw [decide_eq_false n] at p
    exact absurd p (by decide)
  obtain ⟨a, b⟩ := max_lt_iff.1 q
  refine isReal_of_ne (fun e => ?_) (ne_of_lt a)
  rw [e] at b
  exact absurd b (by simp)

variable (v0 : FVec Ideal S8x512x80 .f32) (v1 : IVec S8 32) (v2 : IVec S8x64 32) (v3 : IVec S8 32) (v4 : FVec Ideal S80x512 .f32)
  (v5 : FVec Ideal S512 .f32) (v6 : FVec Ideal S500x512 .f32) (v7 v8 v9 : FVec Ideal S512x512 .f32)
  (v10 v11 v12 v13 : FVec Ideal S512x500 .f32)

/-- The frame counts. -/
theorem t_range (h : (fn v0 v1 v2 v3 v4 v5 v6 v7 v8 v9 v10 v11 v12 v13).1 = fun _ => 1#1) (b : Fin 8) :
    256 ≤ (v1 (ix1 b)).toNat ∧ (v1 (ix1 b)).toNat ≤ 512 := by
  obtain ⟨p, q⟩ := range_of (v1 (ix1 b)) 256#32 512#32 (congrFun h (ix1 b))
  simp only [BitVec.toInt, BitVec.toNat_ofNat] at p q
  omega

/-- The labels. -/
theorem y_range (h : (fn v0 v1 v2 v3 v4 v5 v6 v7 v8 v9 v10 v11 v12 v13).2.1 = fun _ => 1#1) (b : Fin 8) (u : Fin 64) :
    1 ≤ (v2 (ix2 b u)).toNat ∧ (v2 (ix2 b u)).toNat < 500 := by
  obtain ⟨p, q⟩ := range_of' (v2 (ix2 b u)) 1#32 500#32 (congrFun h (ix2 b u))
  simp only [BitVec.toInt, BitVec.toNat_ofNat] at p q
  omega

/-- The label counts. -/
theorem u_range (h : (fn v0 v1 v2 v3 v4 v5 v6 v7 v8 v9 v10 v11 v12 v13).2.2.1 = fun _ => 1#1) (b : Fin 8) :
    32 ≤ (v3 (ix1 b)).toNat ∧ (v3 (ix1 b)).toNat ≤ 64 := by
  obtain ⟨p, q⟩ := range_of (v3 (ix1 b)) 32#32 64#32 (congrFun h (ix1 b))
  simp only [BitVec.toInt, BitVec.toNat_ofNat] at p q
  omega

/-- The joiner's output weights. -/
theorem out_real (h : (fn v0 v1 v2 v3 v4 v5 v6 v7 v8 v9 v10 v11 v12 v13).2.2.2.1 = fun _ => 1#1) (d : Fin 512) (v : Fin 500) :
    IsReal (v10 (ix2 d v)) :=
  real_of _ (congrFun h (ix2 d v))

/-- The ctc head's weights. -/
theorem ctc_real (h : (fn v0 v1 v2 v3 v4 v5 v6 v7 v8 v9 v10 v11 v12 v13).2.2.2.2 = fun _ => 1#1) (d : Fin 512) (v : Fin 500) :
    IsReal (v13 (ix2 d v)) :=
  real_of _ (congrFun h (ix2 d v))

end Cert.Pre_inputs_in_range

end
-- ==== Proof.Gather.lean ====
module

public import proofs.«01_k».proof.Proof.Gen.ReferenceIdeal.Run
public import proofs.«01_k».proof.Proof.Spec

@[expose] public section

set_option maxRecDepth 16384

noncomputable section

open Idealize.ShloMosaic Idealize.ShloMosaic.TcCoe Idealize.SL.Sem Idealize.ShloMosaic.StableHlo

namespace Cert.ReferenceIdeal.Read

open Cert.ReferenceIdeal Cert.ReferenceIdeal.Gen Cert.ReferenceIdeal.Value Cert.Spec

/-- A row index read from a word: signed, and kept below `n + 1`. -/
def clamp (n : ℕ) (w : BitVec 32) : Fin (n + 1) := ⟨min w.toInt.toNat n, by omega⟩

/-- The rows of the embedding, at a label. -/
theorem gather_emb (x : FVec Ideal S500x512 .f32) (i : IVec S8x65x1 32) (b : Fin 8) (u : Fin 65) (k : Fin 512) :
    Host.gather gather_S500x512_S8x65x1_S8x65x512_2_0_n_n_0_2_1512 x i (ix3 b u k)
      = x (ix2 (clamp 499 (i (ix3 b u 0))) k) := by
  unfold Host.gather
  congr 1
  funext a
  refine Fin.ext ?_
  have hs : ∀ c, GatherDims.siIdx gather_S500x512_S8x65x1_S8x65x512_2_0_n_n_0_2_1512 (ix3 b u k) c = ix3 b u 0 := by
    intro c
    funext e
    refine Fin.ext ?_
    match e with
    | ⟨0, _⟩ => rfl
    | ⟨1, _⟩ => rfl
    | ⟨2, _⟩ => have := c.isLt; show c.val = 0; change c.val < 1 at this; omega
  show GatherDims.start _ _ _ a + GatherDims.batchCoord _ _ a + GatherDims.offCoord _ _ a = _
  unfold GatherDims.start
  simp only [hs]
  match a with
  | ⟨0, _⟩ => rfl
  | ⟨1, _⟩ => show 0 + 0 + k.val = k.val; omega

/-- The rows of the projected decoder outputs, at a position of the band. -/
theorem gather_lm (x : FVec Ideal S8x65x512 .f32) (i : IVec S8x512x5x1 32) (b : Fin 8) (t : Fin 512) (s : Fin 5) (k : Fin 512) :
    Host.gather gather_S8x65x512_S8x512x5x1_S8x512x5x512_3_1_0_0_1_3_11512 x i (ix4 b t s k)
      = x (ix3 b (clamp 64 (i (ix4 b t s 0))) k) := by
  unfold Host.gather
  congr 1
  funext a
  refine Fin.ext ?_
  have hs : ∀ c, GatherDims.siIdx gather_S8x65x512_S8x512x5x1_S8x512x5x512_3_1_0_0_1_3_11512 (ix4 b t s k) c = ix4 b t s 0 := by
    intro c
    funext e
    refine Fin.ext ?_
    match e with
    | ⟨0, _⟩ => rfl
    | ⟨1, _⟩ => rfl
    | ⟨2, _⟩ => rfl
    | ⟨3, _⟩ => have := c.isLt; show c.val = 0; change c.val < 1 at this; omega
  show GatherDims.start _ _ _ a + GatherDims.batchCoord _ _ a + GatherDims.offCoord _ _ a = _
  unfold GatherDims.start
  simp only [hs]
  match a with
  | ⟨0, _⟩ => show 0 + b.val + 0 = b.val; omega
  | ⟨1, _⟩ => rfl
  | ⟨2, _⟩ => show 0 + 0 + k.val = k.val; omega

/-- The labels, at a position of the band. -/
theorem gather_sym (x : IVec S8x65 32) (i : IVec S8x512x5x1 32) (b : Fin 8) (t : Fin 512) (s : Fin 5) :
    Host.gather gather_S8x65_S8x512x5x1_S8x512x5_n_1_0_0_1_3_11 x i (ix3 b t s)
      = x (ix2 b (clamp 64 (i (ix4 b t s 0)))) := by
  unfold Host.gather
  congr 1
  funext a
  refine Fin.ext ?_
  have hs : ∀ c, GatherDims.siIdx gather_S8x65_S8x512x5x1_S8x512x5_n_1_0_0_1_3_11 (ix3 b t s) c = ix4 b t s 0 := by
    intro c
    funext e
    refine Fin.ext ?_
    match e with
    | ⟨0, _⟩ => rfl
    | ⟨1, _⟩ => rfl
    | ⟨2, _⟩ => rfl
    | ⟨3, _⟩ => have := c.isLt; show c.val = 0; change c.val < 1 at this; omega
  show GatherDims.start _ _ _ a + GatherDims.batchCoord _ _ a + GatherDims.offCoord _ _ a = _
  unfold GatherDims.start
  simp only [hs]
  match a with
  | ⟨0, _⟩ => show 0 + b.val + 0 = b.val; omega
  | ⟨1, _⟩ => rfl

/-- The log probabilities, at a label. -/
theorem gather_lp (x : FVec Ideal S8x512x5x500 .f32) (i : IVec S8x512x5x1x1 32) (b : Fin 8) (t : Fin 512) (s : Fin 5) :
    Host.gather gather_S8x512x5x500_S8x512x5x1x1_S8x512x5x1_n_3_012_012_3_4_1111 x i (ix4 b t s 0)
      = x (ix4 b t s (clamp 499 (i (ix5 b t s 0 0)))) := by
  unfold Host.gather
  congr 1
  funext a
  refine Fin.ext ?_
  have hs : ∀ c, GatherDims.siIdx gather_S8x512x5x500_S8x512x5x1x1_S8x512x5x1_n_3_012_012_3_4_1111 (ix4 b t s 0) c = ix5 b t s 0 0 := by
    intro c
    funext e
    refine Fin.ext ?_
    match e with
    | ⟨0, _⟩ => rfl
    | ⟨1, _⟩ => rfl
    | ⟨2, _⟩ => rfl
    | ⟨3, _⟩ => rfl
    | ⟨4, _⟩ => have := c.isLt; show c.val = 0; change c.val < 1 at this; omega
  show GatherDims.start _ _ _ a + GatherDims.batchCoord _ _ a + GatherDims.offCoord _ _ a = _
  unfold GatherDims.start
  simp only [hs]
  match a with
  | ⟨0, _⟩ => show 0 + b.val + 0 = b.val; omega
  | ⟨1, _⟩ => show 0 + t.val + 0 = t.val; omega
  | ⟨2, _⟩ => show 0 + s.val + 0 = s.val; omega
  | ⟨3, _⟩ => rfl

end Cert.ReferenceIdeal.Read

end
-- ==== Proof.RefA.lean ====
module

public import proofs.«01_k».proof.Proof.Gen.ReferenceIdeal.Run
public import proofs.«01_k».proof.Proof.Gather
public import proofs.«01_k».proof.Proof.Words

@[expose] public section

set_option maxRecDepth 16384

noncomputable section

open Idealize.ShloMosaic Idealize.ShloMosaic.TcCoe Idealize.SL.Sem Idealize.ShloMosaic.StableHlo

namespace Cert.ReferenceIdeal.Read

open Cert.ReferenceIdeal Cert.ReferenceIdeal.Gen Cert.ReferenceIdeal.Value Cert.Spec Cert.Words

/-- A wrapped index: a negative one counts from the end. -/
def wrap (n w : BitVec 32) : BitVec 32 := Scalar.select (IntOp.cmpi .slt w 0#32) (IntOp.addi w n) w

/-- A small index is not wrapped. -/
theorem wrap_small {n : BitVec 32} {k : ℕ} (h : k < 2147483648) : wrap n (BitVec.ofNat 32 k) = BitVec.ofNat 32 k := by
  unfold wrap Scalar.select
  rw [if_neg]
  rw [show (0#32) = BitVec.ofNat 32 0 from rfl, slt_bit h (by omega)]; omega

/-- A small index, kept in range. -/
theorem clamp_small {n k : ℕ} (h : k < 2147483648) : clamp n (BitVec.ofNat 32 k) = cap n k := by
  unfold clamp cap
  simp only [toInt_small h, Int.toNat_natCast]

/-- The greater of two values is their maximum. -/
theorem maxeq : (FloatOps.maximumf (F := Ideal) (φ := .f32)) = (max : EReal → EReal → EReal) := rfl

/-- The splat of negative infinity, at an index. -/
theorem cbot (i : S_.Idx) : (constant S_ .f32 0xFF800000#32 : FVec Ideal S_ .f32) i = ⊥ := ofBits_bot

/-- A fold over the last of three axes. -/
theorem red3 (f : EReal → EReal → EReal) [Std.Commutative f] [Std.Associative f] (x : FVec Ideal S8x512x500 .f32)
    (init : FVec Ideal S_ .f32) (b : Fin 8) (t : Fin 512) :
    Host.reduce f x init reducesTo_S8x512x500_S8x512_d2 h_S_ (ix2 b t)
      = Finset.univ.fold f (init (Shape.Idx.first h_S_)) fun k => x (ix3 b t k) := by
  rw [Host.reduce_eq_fold]
  exact Shape.ReducesTo.fold_fiber_r3_a2 reducesTo_S8x512x500_S8x512_d2 (ix2 b t) f (init (Shape.Idx.first h_S_)) x

/-- The maximum over the last of three axes. -/
theorem max3 (x : FVec Ideal S8x512x500 .f32) (b : Fin 8) (t : Fin 512) :
    (Host.reduce FloatOps.maximumf x (constant S_ .f32 0xFF800000#32) reducesTo_S8x512x500_S8x512_d2 h_S_) (ix2 b t)
      = Finset.univ.fold max ⊥ fun k => x (ix3 b t k) := by
  rw [maxeq]
  have h := red3 max x (constant S_ .f32 0xFF800000#32) b t
  rw [cbot] at h
  exact h

/-- The entries less a row's maximum, kept from below at negative infinity. -/
theorem sub3 (x : FVec Ideal S8x512x500 .f32) (R : FVec Ideal S8x512 .f32) (b : Fin 8) (t : Fin 512) (k : Fin 500) :
    (subf x (broadcastInDim S8x512x500 ![0, 1, 2] bcast_S8x512x1_S8x512x500_0_1_2 (broadcastInDim S8x512x1 ![0, 1] bcast_S8x512_S8x512x1_0_1 (maximumf (broadcastInDim S8x512 ![] bcast_S_S8x512 (constant S_ .f32 0xFF800000#32)) R)))) (ix3 b t k)
      = x (ix3 b t k) - R (ix2 b t) := by
  pointwise []
  rw [ofBits_bot, max_eq_right bot_le]

/-- The entries less the logarithm of the sum of their exponentials. -/
theorem lse3 (C : FVec Ideal S8x512x500 .f32) (b : Fin 8) (t : Fin 512) (v : Fin 500) :
    (subf C (broadcastInDim S8x512x500 ![0, 1, 2] bcast_S8x512x1_S8x512x500_0_1_2 (Host.log (broadcastInDim S8x512x1 ![0, 1] bcast_S8x512_S8x512x1_0_1 (Host.reduceAdd (Host.exp C) (constant S_ .f32 0x00000000#32) reducesTo_S8x512x500_S8x512_d2 h_S_))))) (ix3 b t v)
      = C (ix3 b t v) - Ideal.log (∑ k, Ideal.exp (C (ix3 b t k))) := by
  pointwise []

/-- The log softmax over the last of three axes. -/
theorem lsm3 (x : FVec Ideal S8x512x500 .f32) (C : FVec Ideal S8x512x500 .f32)
    (e : ∀ b t k, C (ix3 b t k) = x (ix3 b t k) - Finset.univ.fold max ⊥ fun k => x (ix3 b t k))
    (b : Fin 8) (t : Fin 512) (v : Fin 500) :
    (subf C (broadcastInDim S8x512x500 ![0, 1, 2] bcast_S8x512x1_S8x512x500_0_1_2 (Host.log (broadcastInDim S8x512x1 ![0, 1] bcast_S8x512_S8x512x1_0_1 (Host.reduceAdd (Host.exp C) (constant S_ .f32 0x00000000#32) reducesTo_S8x512x500_S8x512_d2 h_S_))))) (ix3 b t v)
      = lsm (fun k => x (ix3 b t k)) v := by
  rw [lse3]
  unfold lsm
  simp only [e]

/-- A fold over the last of four axes. -/
theorem red4 (f : EReal → EReal → EReal) [Std.Commutative f] [Std.Associative f] (x : FVec Ideal S8x512x5x500 .f32)
    (init : FVec Ideal S_ .f32) (b : Fin 8) (t : Fin 512) (s : Fin 5) :
    Host.reduce f x init reducesTo_S8x512x5x500_S8x512x5_d3 h_S_ (ix3 b t s)
      = Finset.univ.fold f (init (Shape.Idx.first h_S_)) fun k => x (ix4 b t s k) := by
  rw [Host.reduce_eq_fold]
  exact Shape.ReducesTo.fold_fiber_r4_a3 reducesTo_S8x512x5x500_S8x512x5_d3 (ix3 b t s) f (init (Shape.Idx.first h_S_)) x

/-- The maximum over the last of four axes. -/
theorem max4 (x : FVec Ideal S8x512x5x500 .f32) (b : Fin 8) (t : Fin 512) (s : Fin 5) :
    (Host.reduce FloatOps.maximumf x (constant S_ .f32 0xFF800000#32) reducesTo_S8x512x5x500_S8x512x5_d3 h_S_) (ix3 b t s)
      = Finset.univ.fold max ⊥ fun k => x (ix4 b t s k) := by
  rw [maxeq]
  have h := red4 max x (constant S_ .f32 0xFF800000#32) b t s
  rw [cbot] at h
  exact h

/-- The entries less a row's maximum, kept from below at negative infinity. -/
theorem sub4 (x : FVec Ideal S8x512x5x500 .f32) (R : FVec Ideal S8x512x5 .f32) (b : Fin 8) (t : Fin 512) (s : Fin 5) (k : Fin 500) :
    (subf x (broadcastInDim S8x512x5x500 ![0, 1, 2, 3] bcast_S8x512x5x1_S8x512x5x500_0_1_2_3 (broadcastInDim S8x512x5x1 ![0, 1, 2] bcast_S8x512x5_S8x512x5x1_0_1_2 (maximumf (broadcastInDim S8x512x5 ![] bcast_S_S8x512x5 (constant S_ .f32 0xFF800000#32)) R)))) (ix4 b t s k)
      = x (ix4 b t s k) - R (ix3 b t s) := by
  pointwise []
  rw [ofBits_bot, max_eq_right bot_le]

/-- The entries less the logarithm of the sum of their exponentials. -/
theorem lse4 (C : FVec Ideal S8x512x5x500 .f32) (b : Fin 8) (t : Fin 512) (s : Fin 5) (v : Fin 500) :
    (subf C (broadcastInDim S8x512x5x500 ![0, 1, 2, 3] bcast_S8x512x5x1_S8x512x5x500_0_1_2_3 (Host.log (broadcastInDim S8x512x5x1 ![0, 1, 2] bcast_S8x512x5_S8x512x5x1_0_1_2 (Host.reduceAdd (Host.exp C) (constant S_ .f32 0x00000000#32) reducesTo_S8x512x5x500_S8x512x5_d3 h_S_))))) (ix4 b t s v)
      = C (ix4 b t s v) - Ideal.log (∑ k, Ideal.exp (C (ix4 b t s k))) := by
  pointwise []

/-- The log softmax over the last of four axes. -/
theorem lsm4 (x : FVec Ideal S8x512x5x500 .f32) (C : FVec Ideal S8x512x5x500 .f32)
    (e : ∀ b t s k, C (ix4 b t s k) = x (ix4 b t s k) - Finset.univ.fold max ⊥ fun k => x (ix4 b t s k))
    (b : Fin 8) (t : Fin 512) (s : Fin 5) (v : Fin 500) :
    (subf C (broadcastInDim S8x512x5x500 ![0, 1, 2, 3] bcast_S8x512x5x1_S8x512x5x500_0_1_2_3 (Host.log (broadcastInDim S8x512x5x1 ![0, 1, 2] bcast_S8x512x5_S8x512x5x1_0_1_2 (Host.reduceAdd (Host.exp C) (constant S_ .f32 0x00000000#32) reducesTo_S8x512x5x500_S8x512x5_d3 h_S_))))) (ix4 b t s v)
      = lsm (fun k => x (ix4 b t s k)) v := by
  rw [lse4]
  unfold lsm
  simp only [e]

/-- The logits of the band, from what they are made of. -/
theorem logit4 (am : FVec Ideal S8x512x512 .f32) (lm : FVec Ideal S8x65x512 .f32) (r : IVec S8x512x5 32) (w : FVec Ideal S512x500 .f32)
    (b : Fin 8) (t : Fin 512) (s : Fin 5) (v : Fin 500) :
    (Host.dotGeneral (φ₁ := .f32) (φ₂ := .f32) dot_S8x512x5x512_S512x500_S8x512x5x500_3_0_012_1_n_n none (Host.tanh (addf (broadcastInDim S8x512x5x512 ![0, 1, 2, 3] bcast_S8x512x1x512_S8x512x5x512_0_1_2_3 (broadcastInDim S8x512x1x512 ![0, 1, 3] bcast_S8x512x512_S8x512x1x512_0_1_3 am)) (Host.gather gather_S8x65x512_S8x512x5x1_S8x512x5x512_3_1_0_0_1_3_11512 lm (broadcastInDim S8x512x5x1 ![0, 1, 2] bcast_S8x512x5_S8x512x5x1_0_1_2 (select (cmpi .slt r (broadcastInDim S8x512x5 ![] bcast_S_S8x512x5 (constantI S_ 32 0#32))) (addi r (broadcastInDim S8x512x5 ![] bcast_S_S8x512x5 (constantI S_ 32 65#32))) r))))) w : FVec Ideal S8x512x5x500 .f32) (ix4 b t s v)
      = ∑ d : Fin 512, Ideal.tanh (am (ix3 b t d) + lm (ix3 b (clamp 64 (wrap 65#32 (r (ix3 b t s)))) d)) * w (ix2 d v) := by
  pointwise [wrap]
  simp only [gather_lm]
  pointwise [wrap]

/-- The decoder's outputs, from what they are made of. -/
theorem lm3 (emb : FVec Ideal S500x512 .f32) (y : IVec S8x65 32) (w jd : FVec Ideal S512x512 .f32)
    (b : Fin 8) (u : Fin 65) (e : Fin 512) :
    (Host.dotGeneral (φ₁ := .f32) (φ₂ := .f32) dot_S8x65x512_S512x512_S8x65x512_2_0_01_1_n_n none (Host.tanh (Host.dotGeneral (φ₁ := .f32) (φ₂ := .f32) dot_S8x65x512_S512x512_S8x65x512_2_0_01_1_n_n none (Host.gather gather_S500x512_S8x65x1_S8x65x512_2_0_n_n_0_2_1512 emb (broadcastInDim S8x65x1 ![0, 1] bcast_S8x65_S8x65x1_0_1 (select (cmpi .slt y (broadcastInDim S8x65 ![] bcast_S_S8x65 (constantI S_ 32 0#32))) (addi y (broadcastInDim S8x65 ![] bcast_S_S8x65 (constantI S_ 32 500#32))) y))) w)) jd : FVec Ideal S8x65x512 .f32) (ix3 b u e)
      = ∑ d : Fin 512, Ideal.tanh (∑ k : Fin 512, emb (ix2 (clamp 499 (wrap 500#32 (y (ix2 b u)))) k) * w (ix2 k d)) * jd (ix2 d e) := by
  pointwise [wrap]
  simp only [gather_emb]
  pointwise [wrap]

end Cert.ReferenceIdeal.Read

end
-- ==== Proof.Ref.lean ====
module

public import proofs.«01_k».proof.Proof.RefA
public import Idealize.ShloMosaic.Lib.ReduceAll

@[expose] public section

set_option maxRecDepth 16384

noncomputable section

open Idealize.ShloMosaic Idealize.ShloMosaic.TcCoe Idealize.SL.Sem Idealize.ShloMosaic.StableHlo

namespace Cert.ReferenceIdeal.Read

open Cert.ReferenceIdeal Cert.ReferenceIdeal.Gen Cert.ReferenceIdeal.Value Cert.Spec Cert.Words

variable (V0 : Valuation τ sig (Elt Ideal))

/-- The frames. -/
abbrev A0 : FVec Ideal S8x512x80 .f32 := V0 (Proc.devRef .tc main_arg0)
/-- The lengths in frames. -/
abbrev A1 : IVec S8 32 := V0 (Proc.devRef .tc main_arg1)
/-- The labels. -/
abbrev A2 : IVec S8x64 32 := V0 (Proc.devRef .tc main_arg2)
/-- The lengths in labels. -/
abbrev A3 : IVec S8 32 := V0 (Proc.devRef .tc main_arg3)
/-- The encoder's matrix. -/
abbrev A4 : FVec Ideal S80x512 .f32 := V0 (Proc.devRef .tc main_arg4)
/-- The encoder's bias. -/
abbrev A5 : FVec Ideal S512 .f32 := V0 (Proc.devRef .tc main_arg5)
/-- The decoder's embedding. -/
abbrev A6 : FVec Ideal S500x512 .f32 := V0 (Proc.devRef .tc main_arg6)
/-- The decoder's matrix. -/
abbrev A7 : FVec Ideal S512x512 .f32 := V0 (Proc.devRef .tc main_arg7)
/-- The joiner's matrix of the encoder. -/
abbrev A8 : FVec Ideal S512x512 .f32 := V0 (Proc.devRef .tc main_arg8)
/-- The joiner's matrix of the decoder. -/
abbrev A9 : FVec Ideal S512x512 .f32 := V0 (Proc.devRef .tc main_arg9)
/-- The joiner's output matrix. -/
abbrev A10 : FVec Ideal S512x500 .f32 := V0 (Proc.devRef .tc main_arg10)
/-- The matrix of the ctc head. -/
abbrev A13 : FVec Ideal S512x500 .f32 := V0 (Proc.devRef .tc main_arg13)

/-- The integers are in range. -/
structure Ok : Prop where
  ht : ∀ b : Fin 8, 256 ≤ (A1 V0 (ix1 b)).toNat ∧ (A1 V0 (ix1 b)).toNat ≤ 512
  hu : ∀ b : Fin 8, 32 ≤ (A3 V0 (ix1 b)).toNat ∧ (A3 V0 (ix1 b)).toNat ≤ 64
  hy : ∀ (b : Fin 8) (u : Fin 64), 1 ≤ (A2 V0 (ix2 b u)).toNat ∧ (A2 V0 (ix2 b u)).toNat < 500

abbrev Rv4 : FVec Ideal S8x512x512 .f32 := res_main_v4 V0
abbrev Rv5 : FVec Ideal S8x512x500 .f32 := res_main_v5 V0
abbrev Rv8 : IVec S8x65 32 := res_main_v8 V0
abbrev Rc0_v5 : FVec Ideal S8x512x500 .f32 := res_main_call0_v5 V0
abbrev Rv42 : IVec S8x512x5 32 := res_main_v42 V0
abbrev Rv56 : FVec Ideal S8x512x5x500 .f32 := res_main_v56 V0
abbrev Rc3_v5 : FVec Ideal S8x512x5x500 .f32 := res_main_call3_v5 V0
abbrev Rv57 : FVec Ideal S8x512x5x500 .f32 := res_main_v57 V0
abbrev Rv67 : IVec S8x512x5x1 32 := res_main_v67 V0
abbrev Rc4_v5 : IVec S8x512x5x1x1 32 := res_main_call4_v5 V0
abbrev Rv77 : IVec S8x512x1 1 := res_main_v77 V0

/-- The encoder's output. -/
theorem v4_apply (b : Fin 8) (t d : Fin 512) : Rv4 V0 (ix3 b t d)
    = enc (A0 V0) (A4 V0) (A5 V0) b t d := by
  pointwise [res_main_v4, enc]

/-- The logits of the ctc head. -/
theorem v5_apply (b : Fin 8) (t : Fin 512) (v : Fin 500) : Rv5 V0 (ix3 b t v)
    = encmul (n := 500) (A0 V0) (A4 V0) (A5 V0) (A13 V0) b t v := by
  pointwise [res_main_v5, encmul]
  exact Finset.sum_congr rfl fun d _ => by rw [← v4_apply]

/-- The labels with the start symbol in front. -/
theorem v8_apply (b : Fin 8) (u : Fin 65) : Rv8 V0 (ix2 b u) = sos (A2 V0) b u := by
  pointwise [res_main_v8, sos]
  by_cases h : u.val = 0
  · rw [dif_pos (by omega), dif_pos h]
  · rw [dif_neg (by omega), dif_neg h]

/-- The ctc head's log probabilities. -/
theorem v6_apply (b : Fin 8) (t : Fin 512) (v : Fin 500) :
    (subf (Rc0_v5 V0) (broadcastInDim S8x512x500 ![0, 1, 2] bcast_S8x512x1_S8x512x500_0_1_2 (Host.log (broadcastInDim S8x512x1 ![0, 1] bcast_S8x512_S8x512x1_0_1 (Host.reduceAdd (Host.exp (Rc0_v5 V0)) (constant S_ .f32 0x00000000#32) reducesTo_S8x512x500_S8x512_d2 h_S_))))) (ix3 b t v)
      = lsm (fun k => encmul (n := 500) (A0 V0) (A4 V0) (A5 V0) (A13 V0) b t k) v := by
  rw [lsm3 (Rv5 V0) (Rc0_v5 V0)]
  · simp only [v5_apply]
  · intro b t k
    rw [← max3]
    exact sub3 (Rv5 V0) _ b t k

/-- The positions of the band. -/
theorem v42_apply (h : Ok V0) (b : Fin 8) (t : Fin 512) (s : Fin 5) : Rv42 V0 (ix3 b t s)
    = BitVec.ofNat 32 (start (A1 V0 (ix1 b)).toNat (A3 V0 (ix1 b)).toNat t + s.val) := by
  have ht := h.ht b
  have hu := h.hu b
  have hm : t.val * (A3 V0 (ix1 b)).toNat < 1073741824 := by
    have := t.isLt; nlinarith
  rw [← addi_small, ← start_word hu ht, ← floor_select hm (by omega) (by omega)]
  have e1 : BitVec.ofNat 32 (t.val * (A3 V0 (ix1 b)).toNat) = IntOp.muli (BitVec.ofNat 32 t.val) (A3 V0 (ix1 b)) := by
    unfold IntOp.muli
    rw [BitVec.ofNat_mul, ofNat_toNat]
  have e2 : BitVec.ofNat 32 (A1 V0 (ix1 b)).toNat = IntOp.maxsi (A1 V0 (ix1 b)) 1#32 := by
    have := maxsi_small (m := (A1 V0 (ix1 b)).toNat) (n := 1) (by omega) (by omega)
    rw [ofNat_toNat] at this
    rw [this, max_eq_left (by omega)]
  rw [e1, e2]
  pointwise [res_main_v42, res_main_call1_v2, res_main_v23, res_main_v25, res_main_v18]
  rfl

/-- Whether a frame counts. -/
theorem v77_apply (b : Fin 8) (t : Fin 512) (v : Fin 1) : Rv77 V0 (ix3 b t v) = IntOp.cmpi .slt (BitVec.ofNat 32 t.val) (A1 V0 (ix1 b)) := by
  pointwise [res_main_v77, res_main_v18]

/-- The labels with a blank at the end. -/
theorem ext_apply (b : Fin 8) (u : Fin 65) :
   (concatenate S8x65 1 [⟨S8x64, A2 V0⟩, ⟨S8x1, (broadcastInDim S8x1 ![] bcast_S_S8x1 (constantI S_ 32 0#32))⟩] concatenates_S8x64_S8x1_S8x65_d1) (ix2 b u) = ext (A2 V0) b u := by
  pointwise [ext]

/-- The symbols of the band, from the labels and the positions. -/
theorem sym_apply (e : IVec S8x65 32) (r : IVec S8x512x5 32) (b : Fin 8) (t : Fin 512) (s : Fin 5) (v : Fin 1) :
  (broadcastInDim S8x512x5x1 ![0, 1, 2] bcast_S8x512x5_S8x512x5x1_0_1_2 (Host.gather gather_S8x65_S8x512x5x1_S8x512x5_n_1_0_0_1_3_11 e (broadcastInDim S8x512x5x1 ![0, 1, 2] bcast_S8x512x5_S8x512x5x1_0_1_2 (select (cmpi .slt r (broadcastInDim S8x512x5 ![] bcast_S_S8x512x5 (constantI S_ 32 0#32))) (addi r (broadcastInDim S8x512x5 ![] bcast_S_S8x512x5 (constantI S_ 32 65#32))) r)))) (ix4 b t s v)
   = e (ix2 b (clamp 64 (wrap 65#32 (r (ix3 b t s))))) := by
  pointwise [wrap]
  rw [gather_sym]
  pointwise [wrap]

/-- The symbols of the band, as an index. -/
theorem call4_apply (b : Fin 8) (t : Fin 512) (s : Fin 5) (v w : Fin 1) : Rc4_v5 V0 (ix5 b t s v w) = wrap 500#32 (Rv67 V0 (ix4 b t s 0)) := by
  obtain rfl : v = 0 := Subsingleton.elim _ _
  obtain rfl : w = 0 := Subsingleton.elim _ _
  pointwise [res_main_call4_v5, wrap]

/-- The pruned loss, from the pieces of the sum. -/
theorem res_apply (W57 : FVec Ideal S8x512x5x500 .f32) (W42 : IVec S8x512x5 32) (W77 : IVec S8x512x1 1) (a3 : IVec S8 32) (B : IVec S8x512x5x1 1) (G : FVec Ideal S8x512x5x1 .f32) :
  (shapeCast _ (Host.divf (Host.negf (Host.reduceAdd (addf (select (andi (broadcastInDim S8x512x5 ![0, 1, 2] bcast_S8x512x1_S8x512x5_0_1_2 W77) (cmpi .slt W42 (broadcastInDim S8x512x5 ![0, 1, 2] bcast_S8x1x1_S8x512x5_0_1_2 (broadcastInDim S8x1x1 ![0] bcast_S8_S8x1x1_0 a3)))) (shapeCast _ (select B G (broadcastInDim S8x512x5x1 ![] bcast_S_S8x512x5x1 (constant S_ .f32 0x7FC00000#32))) shapeCasts_S8x512x5x1_S8x512x5) (broadcastInDim S8x512x5 ![] bcast_S_S8x512x5 (id (constant S_ .f32 0x00000000#32)))) (select (broadcastInDim S8x512x5 ![0, 1, 2] bcast_S8x512x1_S8x512x5_0_1_2 W77) (shapeCast _ (extractStridedSlice S8x512x5x1 ![0, 0, 0, 0] W57 slices_S8x512x5x500_S8x512x5x1_0_0_0_0) shapeCasts_S8x512x5x1_S8x512x5) (broadcastInDim S8x512x5 ![] bcast_S_S8x512x5 (id (constant S_ .f32 0x00000000#32))))) (constant S_ .f32 0x00000000#32) reducesTo_S8x512x5_S_d0_1_2 h_S_)) (constant S_ .f32 0x40A00000#32)) shapeCasts_S_S1x1 : FVec Ideal S1x1 .f32) (ix2 0 0)
  = Ideal.div (-∑ b : Fin 8, ∑ t : Fin 512, ∑ s : Fin 5,
      (Scalar.select (IntOp.andi (W77 (ix3 b t 0)) (IntOp.cmpi .slt (W42 (ix3 b t s)) (a3 (ix1 b))))
          (Scalar.select (B (ix4 b t s 0)) (G (ix4 b t s 0)) (Ideal.ofBits .f32 2143289344#32)) 0
        + Scalar.select (W77 (ix3 b t 0)) (W57 (ix4 b t s 0)) 0)) (Ideal.ofBits .f32 1084227584#32) := by
  have z : (id (constant S_ .f32 0x00000000#32) : FVec Ideal S_ .f32) ix0 = (0 : EReal) := by
    have : (constant S_ .f32 0x00000000#32 : FVec Ideal S_ .f32) ix0 = (0 : EReal) := by pointwise []
    exact this
  pointwise []
  simp only [z]

/-- A test that holds everywhere holds over the last axis. -/
theorem bnd_apply (C4 : IVec S8x512x5x1x1 32) (h : ∀ (b : Fin 8) (t : Fin 512) (s : Fin 5) (v w : Fin 1), ∃ k : ℕ, k < 500 ∧ C4 (ix5 b t s v w) = BitVec.ofNat 32 k)
  (b : Fin 8) (t : Fin 512) (s : Fin 5) :
  (Host.reduce IntOp.andi (andi (cmpi .sge C4 (broadcastInDim S8x512x5x1x1 ![] bcast_S_S8x512x5x1x1 (constantI S_ 32 0#32))) (cmpi .sle C4 (broadcastInDim S8x512x5x1x1 ![0, 1, 2, 3, 4] bcast_S1x1x1x1x1_S8x512x5x1x1_0_1_2_3_4 (broadcastInDim S1x1x1x1x1 ![4] bcast_S1_S1x1x1x1x1_4 (constantI S1 32 499#32))))) (constantI S_ 1 1#1) reducesTo_S8x512x5x1x1_S8x512x5x1_d4 h_S_) (ix4 b t s 0) = 1#1 := by
  refine Host.reduce_andi_one _ _ _ _ _ rfl fun i => ?_
  rw [eq_ix5 i]
  obtain ⟨k, hk, e⟩ := h (i 0) (i 1) (i 2) (i 3) (i 4)
  have q : IntOp.andi (IntOp.cmpi .sge (C4 (ix5 (i 0) (i 1) (i 2) (i 3) (i 4))) 0#32)
      (IntOp.cmpi .sle (C4 (ix5 (i 0) (i 1) (i 2) (i 3) (i 4))) 499#32) = 1#1 := by
    rw [e]
    have a : IntOp.cmpi .sge (BitVec.ofNat 32 k) 0#32 = 1#1 := by
      unfold IntOp.cmpi
      simp [BitVec.sle, toInt_small (show k < 2147483648 by omega)]
    have c : IntOp.cmpi .sle (BitVec.ofNat 32 k) 499#32 = 1#1 := by
      have := toInt_small (show k < 2147483648 by omega)
      unfold IntOp.cmpi
      simp [BitVec.sle, this]
      rw [decide_eq_true (by omega)]
      rfl
    rw [a, c]
    rfl
  refine Eq.trans ?_ q
  pointwise []

/-- The encoder's output, projected, as the reference computes it. -/
def amR (b : Fin 8) (t e : Fin 512) : EReal := encmul (n := 512) (A0 V0) (A4 V0) (A5 V0) (A8 V0) b t e

/-- The decoder's output, projected, as the reference computes it. -/
def lmR (b : Fin 8) (u : Fin 65) (e : Fin 512) : EReal := lmp (A6 V0) (A7 V0) (A9 V0) (A2 V0) b u e

/-- The encoder's projection is what it should be. -/
theorem am_apply (b : Fin 8) (t e : Fin 512) :
    (Host.dotGeneral (φ₁ := .f32) (φ₂ := .f32) dot_S8x512x512_S512x512_S8x512x512_2_0_01_1_n_n none (Rv4 V0) (A8 V0) : FVec Ideal S8x512x512 .f32) (ix3 b t e) = amR V0 b t e := by
  pointwise [amR, encmul]
  exact Finset.sum_congr rfl fun d _ => by rw [← v4_apply]

/-- The labels with the start symbol are small. -/
theorem sos_small (h : Ok V0) (b : Fin 8) (u : Fin 65) : (sos (A2 V0) b u).toNat < 500 := by
  unfold sos
  split
  · decide
  · exact (h.hy b _).2

/-- The labels with a blank at the end are small. -/
theorem ext_small (h : Ok V0) (b : Fin 8) (u : Fin 65) : (ext (A2 V0) b u).toNat < 500 := by
  unfold ext
  split
  · exact (h.hy b _).2
  · decide

/-- The logits of the band. -/
theorem v56_apply (h : Ok V0) (b : Fin 8) (t : Fin 512) (s : Fin 5) (v : Fin 500) : Rv56 V0 (ix4 b t s v)
    = logit (amR V0) (lmR V0) (A10 V0) b t (cap 64 (start (A1 V0 (ix1 b)).toNat (A3 V0 (ix1 b)).toNat t + s.val)) v := by
  refine (logit4 _ _ (Rv42 V0) (A10 V0) b t s v).trans ?_
  have hu := h.hu b
  rw [v42_apply V0 h, wrap_small (by unfold start; omega), clamp_small (by unfold start; omega)]
  unfold logit
  refine Finset.sum_congr rfl fun d _ => ?_
  refine congrArg (fun z => Ideal.tanh z * _) (congrArg₂ (· + ·) (am_apply V0 b t d) ?_)
  refine (lm3 (A6 V0) (Rv8 V0) (A7 V0) (A9 V0) b _ d).trans ?_
  unfold lmR lmp dec
  refine Finset.sum_congr rfl fun e _ => ?_
  have q := sos_small V0 h b (cap 64 (start (A1 V0 (ix1 b)).toNat (A3 V0 (ix1 b)).toNat t + s.val))
  rw [v8_apply, ← ofNat_toNat (sos _ _ _), wrap_small (by omega), clamp_small (by omega), ofNat_toNat]

/-- The log probabilities of the band. -/
theorem v57_apply (h : Ok V0) (b : Fin 8) (t : Fin 512) (s : Fin 5) (v : Fin 500) : Rv57 V0 (ix4 b t s v)
    = lsm (logit (amR V0) (lmR V0) (A10 V0) b t (cap 64 (start (A1 V0 (ix1 b)).toNat (A3 V0 (ix1 b)).toNat t + s.val))) v := by
  refine (lsm4 (Rv56 V0) (Rc3_v5 V0) ?_ b t s v).trans ?_
  · intro b t s k
    rw [← max4]
    exact sub4 (Rv56 V0) _ b t s k
  · simp only [v56_apply V0 h]

/-- The symbols of the band. -/
theorem v67_apply (h : Ok V0) (b : Fin 8) (t : Fin 512) (s : Fin 5) (v w : Fin 1) : Rc4_v5 V0 (ix5 b t s v w)
    = BitVec.ofNat 32 (ext (A2 V0) b (cap 64 (start (A1 V0 (ix1 b)).toNat (A3 V0 (ix1 b)).toNat t + s.val))).toNat := by
  have hu := h.hu b
  have q := ext_small V0 h b (cap 64 (start (A1 V0 (ix1 b)).toNat (A3 V0 (ix1 b)).toNat t + s.val))
  rw [call4_apply]
  have e : Rv67 V0 (ix4 b t s 0) = BitVec.ofNat 32 (ext (A2 V0) b (cap 64 (start (A1 V0 (ix1 b)).toNat (A3 V0 (ix1 b)).toNat t + s.val))).toNat := by
    refine (sym_apply _ (Rv42 V0) b t s 0).trans ?_
    rw [v42_apply V0 h, wrap_small (by unfold start; omega), clamp_small (by unfold start; omega), ofNat_toNat]
    exact ext_apply V0 b _
  rw [e, wrap_small (by omega)]

/-- The sum that the reference's pruned loss is made of. -/
def total : EReal := ∑ b : Fin 8, ∑ t : Fin 512, ∑ s : Fin 5,
  term (logit (amR V0) (lmR V0) (A10 V0)) (A2 V0) (A1 V0 (ix1 b)).toNat (A3 V0 (ix1 b)).toNat b t s

/-- The reference's pruned loss. -/
theorem pruned_apply (h : Ok V0) : (shapeCast _ (Host.divf (Host.negf (Host.reduceAdd (addf (select (andi (broadcastInDim S8x512x5 ![0, 1, 2] bcast_S8x512x1_S8x512x5_0_1_2 (res_main_v77 V0)) (cmpi .slt (res_main_v42 V0) (broadcastInDim S8x512x5 ![0, 1, 2] bcast_S8x1x1_S8x512x5_0_1_2 (broadcastInDim S8x1x1 ![0] bcast_S8_S8x1x1_0 (V0 (Proc.devRef .tc main_arg3)))))) (shapeCast _ (select (Host.reduce IntOp.andi (andi (cmpi .sge (res_main_call4_v5 V0) (broadcastInDim S8x512x5x1x1 ![] bcast_S_S8x512x5x1x1 (constantI S_ 32 0#32))) (cmpi .sle (res_main_call4_v5 V0) (broadcastInDim S8x512x5x1x1 ![0, 1, 2, 3, 4] bcast_S1x1x1x1x1_S8x512x5x1x1_0_1_2_3_4 (broadcastInDim S1x1x1x1x1 ![4] bcast_S1_S1x1x1x1x1_4 (constantI S1 32 499#32))))) (constantI S_ 1 1#1) reducesTo_S8x512x5x1x1_S8x512x5x1_d4 h_S_) (Host.gather gather_S8x512x5x500_S8x512x5x1x1_S8x512x5x1_n_3_012_012_3_4_1111 (res_main_v57 V0) (res_main_call4_v5 V0)) (broadcastInDim S8x512x5x1 ![] bcast_S_S8x512x5x1 (constant S_ .f32 0x7FC00000#32))) shapeCasts_S8x512x5x1_S8x512x5) (broadcastInDim S8x512x5 ![] bcast_S_S8x512x5 (id (constant S_ .f32 0x00000000#32)))) (select (broadcastInDim S8x512x5 ![0, 1, 2] bcast_S8x512x1_S8x512x5_0_1_2 (res_main_v77 V0)) (shapeCast _ (extractStridedSlice S8x512x5x1 ![0, 0, 0, 0] (res_main_v57 V0) slices_S8x512x5x500_S8x512x5x1_0_0_0_0) shapeCasts_S8x512x5x1_S8x512x5) (broadcastInDim S8x512x5 ![] bcast_S_S8x512x5 (id (constant S_ .f32 0x00000000#32))))) (constant S_ .f32 0x00000000#32) reducesTo_S8x512x5_S_d0_1_2 h_S_)) (constant S_ .f32 0x40A00000#32)) shapeCasts_S_S1x1 : FVec Ideal S1x1 .f32) (ix2 0 0)
    = Ideal.div (-total V0) (Ideal.ofBits .f32 1084227584#32) := by
  refine (res_apply (Rv57 V0) (Rv42 V0) (Rv77 V0) (A3 V0) _ _).trans ?_
  refine congrArg (fun z => Ideal.div (-z) _) ?_
  unfold total
  refine Finset.sum_congr rfl fun b _ => Finset.sum_congr rfl fun t _ => Finset.sum_congr rfl fun s _ => ?_
  have hu := h.hu b
  have ht := h.ht b
  have q := ext_small V0 h b (cap 64 (start (A1 V0 (ix1 b)).toNat (A3 V0 (ix1 b)).toNat t + s.val))
  rw [bnd_apply (Rc4_v5 V0) (fun b t s v w => ⟨_, ext_small V0 h b _, v67_apply V0 h b t s v w⟩), gather_lp]
  have d : res_main_call4_v5 V0 (ix5 b t s 0 0) = _ := v67_apply V0 h b t s 0 0
  rw [d, clamp_small (by omega)]
  have c : ∀ v, Rv57 V0 (ix4 b t s v) = _ := fun v => v57_apply V0 h b t s v
  have c' : ∀ v, res_main_v57 V0 (ix4 b t s v) = _ := c
  rw [c', c, v77_apply, v42_apply V0 h]
  unfold term cell Scalar.select
  have e1 : (IntOp.cmpi .slt (BitVec.ofNat 32 t.val) (A1 V0 (ix1 b)) = 1) ↔ t.val < (A1 V0 (ix1 b)).toNat := by
    rw [← slt_bit (by omega) (by omega), ofNat_toNat]
  have e2 : (IntOp.cmpi .slt (BitVec.ofNat 32 (start (A1 V0 (ix1 b)).toNat (A3 V0 (ix1 b)).toNat t + s.val)) (A3 V0 (ix1 b)) = 1)
      ↔ start (A1 V0 (ix1 b)).toNat (A3 V0 (ix1 b)).toNat t + s.val < (A3 V0 (ix1 b)).toNat := by
    rw [← slt_bit (by unfold start; omega) (by omega), ofNat_toNat]
  have e3 : ∀ x y : BitVec 1, IntOp.andi x y = 1 ↔ x = 1 ∧ y = 1 := fun x y => by revert x y; decide
  simp only [e3, e1, e2]
  rfl

end Cert.ReferenceIdeal.Read

end
-- ==== Proof.Step.lean ====
module

public import proofs.«01_k».proof.Proof.Gen.KernelIdeal.Skeleton
public import Idealize.ShloMosaic.Lib.Pointwise
public import proofs.«01_k».proof.Proof.Reals

@[expose] public section

set_option maxRecDepth 16384

noncomputable section

open Idealize.ShloMosaic

namespace Cert.KernelIdeal.Step

open Cert.KernelIdeal Cert.KernelIdeal.Gen Cert.Reals Cert.Words
open Cert.Spec (cap cell)

/-- One hot rows: row `t` has a one at column `rs t`. -/
def roh (rs : IVec S512x1 32) : FVec Ideal S512x65 .f32 :=
  sitofp .f32 (extui 32 (cmpi .eq (iota .tc S512x65 32 [1] iota_S512x65_d1_w32)
    (broadcastTo S512x65 rs broadcasts_S512x1_S512x65)) natLt_1_32)

/-- The logits of one batch at the positions `rs`. -/
def lgt (w : FVec Ideal S512x500 .f32) (amp : FVec Ideal S512x512 .f32) (lmp : FVec Ideal S65x512 .f32)
    (rs : IVec S512x1 32) : FVec Ideal S512x500 .f32 :=
  matmul dot_S512x512_S512x500_S512x500_1_0_0_1_n_n none
    (tanh (addf amp (matmul dot_S512x65_S65x512_S512x512_1_0_0_1_n_n none (roh rs) lmp (constant S512x512 .f32 0x00000000#32))))
    w (constant S512x500 .f32 0x00000000#32)

/-- The row maxima of a matrix, as a column. -/
def mx (L : FVec Ideal S512x500 .f32) : FVec Ideal S512x1 .f32 :=
  shapeCast S512x1 (multiReduction .maximumf [1] S512 L 0xFF800000#32 reduces_S512x500_S512 (.inl rfl) rfl) shapeCasts_S512_S512x1

/-- The row sums of a matrix, as a column. -/
def sm (L : FVec Ideal S512x500 .f32) : FVec Ideal S512x1 .f32 :=
  shapeCast S512x1 (multiReduction .add [1] S512 L 0x00000000#32 reduces_S512x500_S512 (.inl rfl) rfl) shapeCasts_S512_S512x1

/-- The logarithm of the sum of the exponentials of every row. -/
def lse (L : FVec Ideal S512x500 .f32) : FVec Ideal S512x1 .f32 :=
  addf (log (sm (exp (subf L (broadcastTo S512x500 (mx L) broadcasts_S512x1_S512x500))))) (mx L)

/-- The logits of the symbols at the positions `rs`, as a column. -/
def emit (L : FVec Ideal S512x500 .f32) (yoh : FVec Ideal S65x500 .f32) (rs : IVec S512x1 32) : FVec Ideal S512x1 .f32 :=
  sm (mulf L (matmul dot_S512x65_S65x500_S512x500_1_0_0_1_n_n none (roh rs) yoh (constant S512x500 .f32 0x00000000#32)))

/-- What one position of the band adds to the accumulator. -/
def step (w : FVec Ideal S512x500 .f32) (amp : FVec Ideal S512x512 .f32) (lmp : FVec Ideal S65x512 .f32)
    (yoh : FVec Ideal S65x500 .f32) (tm : FVec Ideal S512x1 .f32) (ulen : BitVec 32) (acc : FVec Ideal S1x1 .f32)
    (rs : IVec S512x1 32) : FVec Ideal S1x1 .f32 :=
  addf acc (shapeCast S1x1 (multiReduction .add [0] S1
    (mulf tm (addf
      (mulf (sitofp .f32 (extui 32 (cmpi .slt rs (broadcast S512x1 ulen)) natLt_1_32))
        (subf (emit (lgt w amp lmp rs) yoh rs) (lse (lgt w amp lmp rs))))
      (subf (extractStridedSlice S512x1 ![0, 0] (lgt w amp lmp rs) slices_S512x500_o0_0_S512x1) (lse (lgt w amp lmp rs)))))
    0x00000000#32 reduces_S512x1_S1 (.inl rfl) rfl) shapeCasts_S1_S1x1)

/-- The frame mask of one batch. -/
def tmask (tlen : BitVec 32) : FVec Ideal S512x1 .f32 :=
  sitofp .f32 (extui 32 (cmpi .slt (iota .tc S512x1 32 [0] iota_S512x1_d0_w32) (broadcast S512x1 tlen)) natLt_1_32)

/-- The first position of the band at every frame of one batch. -/
def start (tlen ulen : BitVec 32) : IVec S512x1 32 :=
  k0_pay253 (k0_pay252 (F := Ideal) tlen ulen) (Scalar.addi ulen 1#32) 5#32

/-- What one batch adds to the accumulator: the five positions of the band. -/
def batch (w : FVec Ideal S512x500 .f32) (acc : FVec Ideal S1x1 .f32) (tlen ulen : BitVec 32) (amp : FVec Ideal S512x512 .f32)
    (lmp : FVec Ideal S65x512 .f32) (yoh : FVec Ideal S65x500 .f32) : FVec Ideal S1x1 .f32 :=
  let st := start tlen ulen
  let f := step w amp lmp yoh (tmask tlen) ulen
  f (f (f (f (f acc (addi st (broadcast S512x1 0#32))) (addi st (broadcast S512x1 1#32))) (addi st (broadcast S512x1 2#32)))
    (addi st (broadcast S512x1 3#32))) (addi st (broadcast S512x1 4#32))

/-- A one hot row read at a column. -/
theorem roh_apply (rs : IVec S512x1 32) (t : Fin 512) (p : Fin 65) (h : rs (ix2 t 0) = BitVec.ofNat 32 p.val) (u : Fin 65) :
    roh rs (ix2 t u) = if u = p then 1 else 0 := by
  have e : roh rs (ix2 t u) = FloatOps.sitofp (F := Ideal) .f32 (BitVec.setWidth 32 (IntOp.cmpi .eq (BitVec.ofNat 32 u.val) (rs (ix2 t 0)))) := by
    pointwise [roh]
  rw [e, bit_num, h]
  simp only [eq_bit (show u.val < 2147483648 by omega) (show p.val < 2147483648 by omega), Fin.ext_iff]

/-- A sum against a one hot row is the entry it selects. -/
theorem sum_roh (rs : IVec S512x1 32) (t : Fin 512) (p : Fin 65) (h : rs (ix2 t 0) = BitVec.ofNat 32 p.val) (f : Fin 65 → EReal) :
    ∑ u, roh rs (ix2 t u) * f u = f p := by
  simp only [roh_apply rs t p h, ite_mul, one_mul, zero_mul, Finset.sum_ite_eq', Finset.mem_univ, if_true]

/-- The logits of a frame at its position. -/
theorem lgt_apply (w : FVec Ideal S512x500 .f32) (amp : FVec Ideal S512x512 .f32) (lmp : FVec Ideal S65x512 .f32)
    (rs : IVec S512x1 32) (t : Fin 512) (p : Fin 65) (h : rs (ix2 t 0) = BitVec.ofNat 32 p.val) (v : Fin 500) :
    lgt w amp lmp rs (ix2 t v) = ∑ d : Fin 512, Ideal.tanh (amp (ix2 t d) + lmp (ix2 p d)) * w (ix2 d v) := by
  have e : lgt w amp lmp rs (ix2 t v)
      = ∑ d : Fin 512, Ideal.tanh (amp (ix2 t d) + ∑ u : Fin 65, roh rs (ix2 t u) * lmp (ix2 u d)) * w (ix2 d v) := by
    pointwise [lgt]
  rw [e]
  simp only [sum_roh rs t p h]

/-- The row maxima. -/
theorem mx_apply (L : FVec Ideal S512x500 .f32) (t : Fin 512) :
    mx L (ix2 t 0) = Finset.univ.fold max ⊥ fun k => L (ix2 t k) := by
  have e : mx L (ix2 t 0) = Finset.univ.fold max (Ideal.ofBits .f32 4286578688#32) fun k => L (ix2 t k) := by
    pointwise [mx]
  rw [e, ofBits_bot]

/-- The logarithms of the sums of exponentials. -/
theorem lse_apply (L : FVec Ideal S512x500 .f32) (t : Fin 512) :
    lse L (ix2 t 0) = Ideal.log (∑ k, Ideal.exp (L (ix2 t k) - Finset.univ.fold max ⊥ fun k => L (ix2 t k)))
      + Finset.univ.fold max ⊥ fun k => L (ix2 t k) := by
  have e : lse L (ix2 t 0) = Ideal.log (∑ k, Ideal.exp (L (ix2 t k) - mx L (ix2 t 0))) + mx L (ix2 t 0) := by
    pointwise [lse, sm]
  rw [e, mx_apply]

/-- The logits of the symbols. -/
theorem emit_apply (L : FVec Ideal S512x500 .f32) (yoh : FVec Ideal S65x500 .f32) (rs : IVec S512x1 32) (t : Fin 512)
    (p : Fin 65) (h : rs (ix2 t 0) = BitVec.ofNat 32 p.val) (sym : Fin 65 → Fin 500)
    (hy : ∀ u v, yoh (ix2 u v) = if v = sym u then 1 else 0) :
    emit L yoh rs (ix2 t 0) = L (ix2 t (sym p)) := by
  have e : emit L yoh rs (ix2 t 0) = ∑ v : Fin 500, L (ix2 t v) * ∑ u : Fin 65, roh rs (ix2 t u) * yoh (ix2 u v) := by
    pointwise [emit, sm]
  rw [e]
  simp only [sum_roh rs t p h fun u => yoh (ix2 u _)]
  simp only [hy, mul_ite, mul_one, mul_zero, Finset.sum_ite_eq', Finset.mem_univ, if_true]

/-- What one position of the band adds, from its pieces. -/
theorem step_apply (w : FVec Ideal S512x500 .f32) (amp : FVec Ideal S512x512 .f32) (lmp : FVec Ideal S65x512 .f32)
    (yoh : FVec Ideal S65x500 .f32) (tm : FVec Ideal S512x1 .f32) (ulen : BitVec 32) (acc : FVec Ideal S1x1 .f32)
    (rs : IVec S512x1 32) (i : S1x1.Idx) : step w amp lmp yoh tm ulen acc rs i
      = acc i + ∑ t : Fin 512, tm (ix2 t 0) * (FloatOps.sitofp (F := Ideal) .f32 (BitVec.setWidth 32 (IntOp.cmpi .slt (rs (ix2 t 0)) ulen))
          * (emit (lgt w amp lmp rs) yoh rs (ix2 t 0) - lse (lgt w amp lmp rs) (ix2 t 0))
          + (lgt w amp lmp rs (ix2 t 0) - lse (lgt w amp lmp rs) (ix2 t 0))) := by
  pointwise [step]

/-- The frame mask. -/
theorem tmask_apply (tlen : BitVec 32) (h : tlen.toNat ≤ 512) (t : Fin 512) :
    tmask tlen (ix2 t 0) = if t.val < tlen.toNat then 1 else 0 := by
  have e : tmask tlen (ix2 t 0) = FloatOps.sitofp (F := Ideal) .f32 (BitVec.setWidth 32 (IntOp.cmpi .slt (BitVec.ofNat 32 t.val) tlen)) := by
    pointwise [tmask]
  have q := slt_bit (show t.val < 2147483648 by omega) (show tlen.toNat < 2147483648 by omega)
  rw [ofNat_toNat] at q
  rw [e, bit_num]
  simp only [q]

/-- The first position of the band. -/
theorem start_apply {tlen ulen : BitVec 32} (hu : 32 ≤ ulen.toNat ∧ ulen.toNat ≤ 64) (ht : 256 ≤ tlen.toNat ∧ tlen.toNat ≤ 512) (t : Fin 512) :
    start tlen ulen (ix2 t 0) = BitVec.ofNat 32 (Spec.start tlen.toNat ulen.toNat t) := by
  have hm : t.val * ulen.toNat < 1073741824 := by
    have := t.isLt; nlinarith
  have e2 : IntOp.maxsi tlen 1#32 = BitVec.ofNat 32 tlen.toNat := by
    have := maxsi_small (m := tlen.toNat) (n := 1) (by omega) (by omega)
    rw [ofNat_toNat] at this
    rw [this, max_eq_left (by omega)]
  rw [← start_word hu ht, ← center_word hm (by omega)]
  have e3 : (((t.val * ulen.toNat : ℕ) : ℝ) : EReal) = FloatOps.sitofp (F := Ideal) .f32 (BitVec.ofNat 32 t.val) * ((ulen.toInt : ℝ) : EReal) := by
    have := toInt_small (n := ulen.toNat) (by omega)
    rw [ofNat_toNat] at this
    rw [sitofp_small (by omega), this, ← EReal.coe_mul]
    push_cast
    rfl
  have e4 : ((tlen.toNat : ℝ) : EReal) = (((IntOp.maxsi tlen 1#32).toInt : ℝ) : EReal) := by
    rw [e2, toInt_small (by omega)]
    rfl
  rw [e3, e4]
  pointwise [start, k0_pay253, k0_pay252]
  rfl

/-- What one position of the band adds. -/
theorem step_cell (w : FVec Ideal S512x500 .f32) (amp : FVec Ideal S512x512 .f32) (lmp : FVec Ideal S65x512 .f32)
    (yoh : FVec Ideal S65x500 .f32) {tlen ulen : BitVec 32} (acc : FVec Ideal S1x1 .f32) (rs : IVec S512x1 32)
    (hu : 32 ≤ ulen.toNat ∧ ulen.toNat ≤ 64) (ht : 256 ≤ tlen.toNat ∧ tlen.toNat ≤ 512) (s : Fin 5)
    (hr : ∀ t, rs (ix2 t 0) = BitVec.ofNat 32 (Spec.start tlen.toNat ulen.toNat t + s.val))
    (hw : ∀ d v, IsReal (w (ix2 d v))) (sym : Fin 65 → Fin 500)
    (hy : ∀ u v, yoh (ix2 u v) = if v = sym u then 1 else 0) (i : S1x1.Idx) :
    step w amp lmp yoh (tmask tlen) ulen acc rs i = acc i + ∑ t : Fin 512,
      cell (fun t u v => ∑ d : Fin 512, Ideal.tanh (amp (ix2 t d) + lmp (ix2 u d)) * w (ix2 d v)) sym tlen.toNat ulen.toNat t s := by
  rw [step_apply]
  refine congrArg (acc i + ·) (Finset.sum_congr rfl fun t _ => ?_)
  have hp : rs (ix2 t 0) = BitVec.ofNat 32 (cap 64 (Spec.start tlen.toNat ulen.toNat t + s.val)).val := by
    rw [hr]; congr 1; unfold cap Spec.start; simp only; omega
  have hl : ∀ v, IsReal (∑ d : Fin 512, Ideal.tanh (amp (ix2 t d) + lmp (ix2 (cap 64 (Spec.start tlen.toNat ulen.toNat t + s.val)) d)) * w (ix2 d v)) :=
    fun v => isReal_sum _ fun d => isReal_mul (isReal_tanh _) (hw d v)
  have q := slt_bit (m := Spec.start tlen.toNat ulen.toNat t + s.val) (n := ulen.toNat) (by unfold Spec.start; omega) (by omega)
  rw [ofNat_toNat] at q
  rw [emit_apply _ _ _ t _ hp sym hy, lse_apply, tmask_apply tlen ht.2, bit_num, hr t]
  simp only [lgt_apply w amp lmp rs t _ hp, lsm_eq _ hl, q]
  unfold cell
  by_cases h : t.val < tlen.toNat
  · by_cases h' : Spec.start tlen.toNat ulen.toNat t + s.val < ulen.toNat
    · simp only [h, h', if_true, and_self, one_mul]
    · simp only [h, h', if_true, if_false, and_false, one_mul, zero_mul]
  · simp only [h, if_false, false_and, zero_mul, add_zero]

/-- The positions of the band. -/
theorem addi_start {tlen ulen : BitVec 32} (hu : 32 ≤ ulen.toNat ∧ ulen.toNat ≤ 64) (ht : 256 ≤ tlen.toNat ∧ tlen.toNat ≤ 512)
    (k : ℕ) (t : Fin 512) : addi (start tlen ulen) (broadcast S512x1 (BitVec.ofNat 32 k)) (ix2 t 0)
      = BitVec.ofNat 32 (Spec.start tlen.toNat ulen.toNat t + k) := by
  rw [← addi_small, ← start_apply hu ht]
  rfl

/-- What one batch adds to the accumulator. -/
theorem batch_apply (w : FVec Ideal S512x500 .f32) (amp : FVec Ideal S512x512 .f32) (lmp : FVec Ideal S65x512 .f32)
    (yoh : FVec Ideal S65x500 .f32) {tlen ulen : BitVec 32} (acc : FVec Ideal S1x1 .f32)
    (hu : 32 ≤ ulen.toNat ∧ ulen.toNat ≤ 64) (ht : 256 ≤ tlen.toNat ∧ tlen.toNat ≤ 512)
    (hw : ∀ d v, IsReal (w (ix2 d v))) (sym : Fin 65 → Fin 500)
    (hy : ∀ u v, yoh (ix2 u v) = if v = sym u then 1 else 0) (i : S1x1.Idx) :
    batch w acc tlen ulen amp lmp yoh i = acc i + ∑ t : Fin 512, ∑ s : Fin 5,
      cell (fun t u v => ∑ d : Fin 512, Ideal.tanh (amp (ix2 t d) + lmp (ix2 u d)) * w (ix2 d v)) sym tlen.toNat ulen.toNat t s := by
  unfold batch
  rw [step_cell w amp lmp yoh _ _ hu ht 4 (addi_start hu ht 4) hw sym hy, step_cell w amp lmp yoh _ _ hu ht 3 (addi_start hu ht 3) hw sym hy,
    step_cell w amp lmp yoh _ _ hu ht 2 (addi_start hu ht 2) hw sym hy, step_cell w amp lmp yoh _ _ hu ht 1 (addi_start hu ht 1) hw sym hy,
    step_cell w amp lmp yoh _ _ hu ht 0 (addi_start hu ht 0) hw sym hy, Finset.sum_comm]
  simp only [Fin.sum_univ_five, add_assoc]

end Cert.KernelIdeal.Step

end
-- ==== Proof.Batch.lean ====
module

public import proofs.«01_k».proof.Proof.Step

@[expose] public section

set_option maxRecDepth 16384

noncomputable section

open Idealize.ShloMosaic

namespace Cert.KernelIdeal.Step

open Cert.KernelIdeal Cert.KernelIdeal.Gen

/-- What one batch adds to the accumulator, from the stored pieces. -/
def batchS (w : FVec Ideal S512x500 .f32) (acc : FVec Ideal S1x1 .f32) (tlen ulen : BitVec 32) (a : FVec Ideal S1x512x512 .f32)
    (l : FVec Ideal S1x65x512 .f32) (y : FVec Ideal S1x65x500 .f32) : FVec Ideal S1x1 .f32 :=
  batch w acc tlen ulen (shapeCast S512x512 a shapeCasts_S1x512x512_S512x512) (shapeCast S65x512 l shapeCasts_S1x65x512_S65x512)
    (shapeCast S65x500 y shapeCasts_S1x65x500_S65x500)

/-- The mean over the batches' frames, from the accumulator. -/
def fin (acc : FVec Ideal S1x1 .f32) : FVec Ideal S1x1 .f32 :=
  divf (subf (broadcast S1x1 (Scalar.ofBits .f32 0x00000000#32)) acc) (broadcast S1x1 (Scalar.ofBits .f32 0x40A00000#32))

/-- The first batch. -/
theorem batch0_eq (w : FVec Ideal S512x500 .f32) (acc : FVec Ideal S1x1 .f32) (tlen ulen : BitVec 32) (a : FVec Ideal S1x512x512 .f32)
    (l : FVec Ideal S1x65x512 .f32) (y : FVec Ideal S1x65x500 .f32) :
    (k0_pay270 w ulen (k0_pay248 a) (k0_pay249 l) (k0_pay250 y) (k0_pay251 (F := Ideal) tlen) (k0_pay253 (k0_pay252 (F := Ideal) tlen ulen) (Scalar.addi ulen 1#32) 5#32) (k0_pay262 ulen (k0_pay250 y) (k0_pay251 (F := Ideal) tlen) (k0_pay256 w ulen (k0_pay248 a) (k0_pay249 l) (k0_pay250 y) (k0_pay251 (F := Ideal) tlen) (k0_pay254 w acc ulen (k0_pay248 a) (k0_pay249 l) (k0_pay250 y) (k0_pay251 (F := Ideal) tlen) (k0_pay252 (F := Ideal) tlen ulen) (Scalar.addi ulen 1#32) 5#32) (k0_pay255 (k0_pay252 (F := Ideal) tlen ulen) (Scalar.addi ulen 1#32) 5#32) (iota Kind.tc S512x65 32 [1] iota_S512x65_d1_w32)) (k0_pay257 (k0_pay253 (k0_pay252 (F := Ideal) tlen ulen) (Scalar.addi ulen 1#32) 5#32)) (k0_pay258 (F := Ideal) (k0_pay253 (k0_pay252 (F := Ideal) tlen ulen) (Scalar.addi ulen 1#32) 5#32)) (k0_pay259 w (k0_pay248 a) (k0_pay249 l) (k0_pay253 (k0_pay252 (F := Ideal) tlen ulen) (Scalar.addi ulen 1#32) 5#32)) (k0_pay260 w (k0_pay248 a) (k0_pay249 l) (k0_pay253 (k0_pay252 (F := Ideal) tlen ulen) (Scalar.addi ulen 1#32) 5#32)) (k0_pay261 w (k0_pay248 a) (k0_pay249 l) (k0_pay253 (k0_pay252 (F := Ideal) tlen ulen) (Scalar.addi ulen 1#32) 5#32))) (k0_pay266 w (k0_pay248 a) (k0_pay249 l) (k0_pay253 (k0_pay252 (F := Ideal) tlen ulen) (Scalar.addi ulen 1#32) 5#32)) (k0_pay267 w (k0_pay248 a) (k0_pay249 l) (k0_pay250 y) (k0_pay253 (k0_pay252 (F := Ideal) tlen ulen) (Scalar.addi ulen 1#32) 5#32)) (k0_pay268 w (k0_pay248 a) (k0_pay249 l) (k0_pay253 (k0_pay252 (F := Ideal) tlen ulen) (Scalar.addi ulen 1#32) 5#32)) (k0_pay269 (F := Ideal) ulen (k0_pay253 (k0_pay252 (F := Ideal) tlen ulen) (Scalar.addi ulen 1#32) 5#32)))
      = batchS w acc tlen ulen a l y := by
  rfl

/-- The second batch. -/
theorem batch1_eq (w : FVec Ideal S512x500 .f32) (acc : FVec Ideal S1x1 .f32) (tlen ulen : BitVec 32) (a : FVec Ideal S1x512x512 .f32)
    (l : FVec Ideal S1x65x512 .f32) (y : FVec Ideal S1x65x500 .f32) :
    (k0_pay292 ulen (k0_pay273 y) (k0_pay274 (F := Ideal) (iota Kind.tc S512x1 32 [0] iota_S512x1_d0_w32) tlen) (k0_pay287 w ulen (k0_pay271 a) (k0_pay272 l) (k0_pay273 y) (k0_pay274 (F := Ideal) (iota Kind.tc S512x1 32 [0] iota_S512x1_d0_w32) tlen) (k0_pay275 (F := Ideal) (iota Kind.tc S512x1 32 [0] iota_S512x1_d0_w32) tlen ulen) (k0_pay286 w ulen (k0_pay271 a) (k0_pay272 l) (k0_pay273 y) (k0_pay274 (F := Ideal) (iota Kind.tc S512x1 32 [0] iota_S512x1_d0_w32) tlen) (k0_pay275 (F := Ideal) (iota Kind.tc S512x1 32 [0] iota_S512x1_d0_w32) tlen ulen) (k0_pay280 acc ulen (k0_pay273 y) (k0_pay274 (F := Ideal) (iota Kind.tc S512x1 32 [0] iota_S512x1_d0_w32) tlen) (k0_pay276 (F := Ideal) (iota Kind.tc S512x1 32 [0] iota_S512x1_d0_w32) tlen ulen) (k0_pay277 (F := Ideal) (iota Kind.tc S512x1 32 [0] iota_S512x1_d0_w32) tlen ulen) (k0_pay278 w (iota Kind.tc S512x1 32 [0] iota_S512x1_d0_w32) tlen ulen a l) (k0_pay279 w (iota Kind.tc S512x1 32 [0] iota_S512x1_d0_w32) tlen ulen a l)) (k0_pay281 (k0_pay275 (F := Ideal) (iota Kind.tc S512x1 32 [0] iota_S512x1_d0_w32) tlen ulen)) (k0_pay283 w (k0_pay271 a) (k0_pay272 l) (k0_pay275 (F := Ideal) (iota Kind.tc S512x1 32 [0] iota_S512x1_d0_w32) tlen ulen)) (k0_pay284 w (k0_pay271 a) (k0_pay272 l) (k0_pay275 (F := Ideal) (iota Kind.tc S512x1 32 [0] iota_S512x1_d0_w32) tlen ulen)) (k0_pay285 w (k0_pay271 a) (k0_pay272 l) (k0_pay273 y) (k0_pay275 (F := Ideal) (iota Kind.tc S512x1 32 [0] iota_S512x1_d0_w32) tlen ulen))) 3#32) (k0_pay288 (k0_pay275 (F := Ideal) (iota Kind.tc S512x1 32 [0] iota_S512x1_d0_w32) tlen ulen)) (k0_pay289 (F := Ideal) (k0_pay275 (F := Ideal) (iota Kind.tc S512x1 32 [0] iota_S512x1_d0_w32) tlen ulen)) (k0_pay290 w (k0_pay271 a) (k0_pay272 l) (k0_pay275 (F := Ideal) (iota Kind.tc S512x1 32 [0] iota_S512x1_d0_w32) tlen ulen)) (k0_pay291 w (k0_pay271 a) (k0_pay272 l) (k0_pay275 (F := Ideal) (iota Kind.tc S512x1 32 [0] iota_S512x1_d0_w32) tlen ulen)))
      = batchS w acc tlen ulen a l y := by
  rfl

/-- The third batch. -/
theorem batch2_eq (w : FVec Ideal S512x500 .f32) (acc : FVec Ideal S1x1 .f32) (tlen ulen : BitVec 32) (a : FVec Ideal S1x512x512 .f32)
    (l : FVec Ideal S1x65x512 .f32) (y : FVec Ideal S1x65x500 .f32) :
    (k0_pay313 (k0_pay311 ulen (k0_pay296 (F := Ideal) (iota Kind.tc S512x1 32 [0] iota_S512x1_d0_w32) tlen) (k0_pay305 w ulen (k0_pay295 y) (k0_pay296 (F := Ideal) (iota Kind.tc S512x1 32 [0] iota_S512x1_d0_w32) tlen) (k0_pay301 w acc ulen (k0_pay293 a) (k0_pay294 l) (k0_pay295 y) (k0_pay296 (F := Ideal) (iota Kind.tc S512x1 32 [0] iota_S512x1_d0_w32) tlen) (k0_pay299 ulen (k0_pay297 (F := Ideal) (iota Kind.tc S512x1 32 [0] iota_S512x1_d0_w32) ulen) (k0_pay298 (F := Ideal) tlen)) (k0_pay300 w ulen (k0_pay293 a) (k0_pay294 l) (k0_pay295 y) (k0_pay296 (F := Ideal) (iota Kind.tc S512x1 32 [0] iota_S512x1_d0_w32) tlen) (k0_pay297 (F := Ideal) (iota Kind.tc S512x1 32 [0] iota_S512x1_d0_w32) ulen) (k0_pay298 (F := Ideal) tlen))) (k0_pay302 (k0_pay299 ulen (k0_pay297 (F := Ideal) (iota Kind.tc S512x1 32 [0] iota_S512x1_d0_w32) ulen) (k0_pay298 (F := Ideal) tlen))) (k0_pay303 (F := Ideal) (k0_pay299 ulen (k0_pay297 (F := Ideal) (iota Kind.tc S512x1 32 [0] iota_S512x1_d0_w32) ulen) (k0_pay298 (F := Ideal) tlen))) (k0_pay304 (k0_pay293 a) (k0_pay294 l) (k0_pay299 ulen (k0_pay297 (F := Ideal) (iota Kind.tc S512x1 32 [0] iota_S512x1_d0_w32) ulen) (k0_pay298 (F := Ideal) tlen))) (constant S512x500 FTy.f32 0#32)) (k0_pay306 (k0_pay299 ulen (k0_pay297 (F := Ideal) (iota Kind.tc S512x1 32 [0] iota_S512x1_d0_w32) ulen) (k0_pay298 (F := Ideal) tlen))) (k0_pay308 w (k0_pay293 a) (k0_pay294 l) (k0_pay299 ulen (k0_pay297 (F := Ideal) (iota Kind.tc S512x1 32 [0] iota_S512x1_d0_w32) ulen) (k0_pay298 (F := Ideal) tlen))) (k0_pay309 w (k0_pay293 a) (k0_pay294 l) (k0_pay299 ulen (k0_pay297 (F := Ideal) (iota Kind.tc S512x1 32 [0] iota_S512x1_d0_w32) ulen) (k0_pay298 (F := Ideal) tlen))) (k0_pay310 w (k0_pay293 a) (k0_pay294 l) (k0_pay295 y) (k0_pay299 ulen (k0_pay297 (F := Ideal) (iota Kind.tc S512x1 32 [0] iota_S512x1_d0_w32) ulen) (k0_pay298 (F := Ideal) tlen)))) (k0_pay312 w ulen (k0_pay293 a) (k0_pay294 l) (k0_pay295 y) (k0_pay296 (F := Ideal) (iota Kind.tc S512x1 32 [0] iota_S512x1_d0_w32) tlen) (k0_pay299 ulen (k0_pay297 (F := Ideal) (iota Kind.tc S512x1 32 [0] iota_S512x1_d0_w32) ulen) (k0_pay298 (F := Ideal) tlen))))
      = batchS w acc tlen ulen a l y := by
  rfl

/-- The fourth batch. -/
theorem batch3_eq (w : FVec Ideal S512x500 .f32) (acc : FVec Ideal S1x1 .f32) (tlen ulen : BitVec 32) (a : FVec Ideal S1x512x512 .f32)
    (l : FVec Ideal S1x65x512 .f32) (y : FVec Ideal S1x65x500 .f32) :
    (k0_pay333 w ulen (k0_pay314 a) (k0_pay316 y) (k0_pay317 (F := Ideal) (iota Kind.tc S512x1 32 [0] iota_S512x1_d0_w32) tlen) (k0_pay329 w ulen (k0_pay314 a) (k0_pay315 l) (k0_pay316 y) (k0_pay317 (F := Ideal) (iota Kind.tc S512x1 32 [0] iota_S512x1_d0_w32) tlen) (k0_pay318 (F := Ideal) (iota Kind.tc S512x1 32 [0] iota_S512x1_d0_w32) tlen ulen) (k0_pay327 ulen (k0_pay316 y) (k0_pay317 (F := Ideal) (iota Kind.tc S512x1 32 [0] iota_S512x1_d0_w32) tlen) (k0_pay322 w acc ulen (k0_pay314 a) (k0_pay316 y) (k0_pay317 (F := Ideal) (iota Kind.tc S512x1 32 [0] iota_S512x1_d0_w32) tlen) (k0_pay319 (F := Ideal) (iota Kind.tc S512x1 32 [0] iota_S512x1_d0_w32) tlen ulen) (k0_pay320 (F := Ideal) (iota Kind.tc S512x1 32 [0] iota_S512x1_d0_w32) tlen ulen) (k0_pay321 (iota Kind.tc S512x1 32 [0] iota_S512x1_d0_w32) tlen ulen l)) (k0_pay323 (k0_pay318 (F := Ideal) (iota Kind.tc S512x1 32 [0] iota_S512x1_d0_w32) tlen ulen)) (k0_pay324 (F := Ideal) (k0_pay318 (F := Ideal) (iota Kind.tc S512x1 32 [0] iota_S512x1_d0_w32) tlen ulen)) (k0_pay325 w (k0_pay314 a) (k0_pay315 l) (k0_pay318 (F := Ideal) (iota Kind.tc S512x1 32 [0] iota_S512x1_d0_w32) tlen ulen)) (k0_pay326 w (k0_pay314 a) (k0_pay315 l) (k0_pay318 (F := Ideal) (iota Kind.tc S512x1 32 [0] iota_S512x1_d0_w32) tlen ulen))) (k0_pay328 w ulen (k0_pay314 a) (k0_pay315 l) (k0_pay316 y) (k0_pay318 (F := Ideal) (iota Kind.tc S512x1 32 [0] iota_S512x1_d0_w32) tlen ulen))) (k0_pay330 (k0_pay318 (F := Ideal) (iota Kind.tc S512x1 32 [0] iota_S512x1_d0_w32) tlen ulen)) (k0_pay331 (F := Ideal) (k0_pay318 (F := Ideal) (iota Kind.tc S512x1 32 [0] iota_S512x1_d0_w32) tlen ulen)) (k0_pay332 (k0_pay315 l) (k0_pay318 (F := Ideal) (iota Kind.tc S512x1 32 [0] iota_S512x1_d0_w32) tlen ulen)))
      = batchS w acc tlen ulen a l y := by
  rfl

/-- The fifth batch. -/
theorem batch4_eq (w : FVec Ideal S512x500 .f32) (acc : FVec Ideal S1x1 .f32) (tlen ulen : BitVec 32) (a : FVec Ideal S1x512x512 .f32)
    (l : FVec Ideal S1x65x512 .f32) (y : FVec Ideal S1x65x500 .f32) :
    (k0_pay364 (k0_pay337 (F := Ideal) (iota Kind.tc S512x1 32 [0] iota_S512x1_d0_w32) tlen) (k0_pay356 ulen (k0_pay336 y) (k0_pay337 (F := Ideal) (iota Kind.tc S512x1 32 [0] iota_S512x1_d0_w32) tlen) (k0_pay350 w ulen (k0_pay334 a) (k0_pay335 l) (k0_pay336 y) (k0_pay337 (F := Ideal) (iota Kind.tc S512x1 32 [0] iota_S512x1_d0_w32) tlen) (k0_pay347 w acc ulen (k0_pay334 a) (k0_pay335 l) (k0_pay336 y) (k0_pay337 (F := Ideal) (iota Kind.tc S512x1 32 [0] iota_S512x1_d0_w32) tlen) (k0_pay339 tlen ulen (k0_pay338 (F := Ideal) (iota Kind.tc S512x1 32 [0] iota_S512x1_d0_w32)) 1#32) (k0_pay343 w tlen ulen (k0_pay334 a) (k0_pay335 l) (k0_pay338 (F := Ideal) (iota Kind.tc S512x1 32 [0] iota_S512x1_d0_w32)) 1#32) (k0_pay344 w tlen ulen (k0_pay334 a) (k0_pay335 l) (k0_pay338 (F := Ideal) (iota Kind.tc S512x1 32 [0] iota_S512x1_d0_w32)) 1#32) (k0_pay345 tlen ulen (k0_pay338 (F := Ideal) (iota Kind.tc S512x1 32 [0] iota_S512x1_d0_w32)) 1#32) (k0_pay346 w tlen ulen (k0_pay334 a) (k0_pay335 l) (k0_pay336 y) (k0_pay338 (F := Ideal) (iota Kind.tc S512x1 32 [0] iota_S512x1_d0_w32)) 1#32)) (k0_pay348 (k0_pay339 tlen ulen (k0_pay338 (F := Ideal) (iota Kind.tc S512x1 32 [0] iota_S512x1_d0_w32)) 1#32)) (k0_pay349 (k0_pay339 tlen ulen (k0_pay338 (F := Ideal) (iota Kind.tc S512x1 32 [0] iota_S512x1_d0_w32)) 1#32))) (k0_pay351 (k0_pay339 tlen ulen (k0_pay338 (F := Ideal) (iota Kind.tc S512x1 32 [0] iota_S512x1_d0_w32)) 1#32)) (k0_pay352 (F := Ideal) (k0_pay339 tlen ulen (k0_pay338 (F := Ideal) (iota Kind.tc S512x1 32 [0] iota_S512x1_d0_w32)) 1#32)) (k0_pay353 w (k0_pay334 a) (k0_pay335 l) (k0_pay339 tlen ulen (k0_pay338 (F := Ideal) (iota Kind.tc S512x1 32 [0] iota_S512x1_d0_w32)) 1#32)) (k0_pay354 w (k0_pay334 a) (k0_pay335 l) (k0_pay339 tlen ulen (k0_pay338 (F := Ideal) (iota Kind.tc S512x1 32 [0] iota_S512x1_d0_w32)) 1#32)) (k0_pay355 w (k0_pay334 a) (k0_pay335 l) (k0_pay339 tlen ulen (k0_pay338 (F := Ideal) (iota Kind.tc S512x1 32 [0] iota_S512x1_d0_w32)) 1#32))) (k0_pay360 w (k0_pay334 a) (k0_pay335 l) (k0_pay339 tlen ulen (k0_pay338 (F := Ideal) (iota Kind.tc S512x1 32 [0] iota_S512x1_d0_w32)) 1#32)) (k0_pay361 w (k0_pay334 a) (k0_pay335 l) (k0_pay339 tlen ulen (k0_pay338 (F := Ideal) (iota Kind.tc S512x1 32 [0] iota_S512x1_d0_w32)) 1#32)) (k0_pay362 (F := Ideal) ulen (k0_pay339 tlen ulen (k0_pay338 (F := Ideal) (iota Kind.tc S512x1 32 [0] iota_S512x1_d0_w32)) 1#32)) (k0_pay363 w (k0_pay334 a) (k0_pay335 l) (k0_pay336 y) (k0_pay339 tlen ulen (k0_pay338 (F := Ideal) (iota Kind.tc S512x1 32 [0] iota_S512x1_d0_w32)) 1#32)))
      = batchS w acc tlen ulen a l y := by
  rfl

/-- The sixth batch. -/
theorem batch5_eq (w : FVec Ideal S512x500 .f32) (acc : FVec Ideal S1x1 .f32) (tlen ulen : BitVec 32) (a : FVec Ideal S1x512x512 .f32)
    (l : FVec Ideal S1x65x512 .f32) (y : FVec Ideal S1x65x500 .f32) :
    (k0_pay387 w ulen (k0_pay365 a) (k0_pay366 l) (k0_pay367 y) (k0_pay368 (F := Ideal) (iota Kind.tc S512x1 32 [0] iota_S512x1_d0_w32) tlen) (k0_pay385 w ulen (k0_pay365 a) (k0_pay366 l) (k0_pay367 y) (k0_pay368 (F := Ideal) (iota Kind.tc S512x1 32 [0] iota_S512x1_d0_w32) tlen) (k0_pay369 (F := Ideal) (iota Kind.tc S512x1 32 [0] iota_S512x1_d0_w32) tlen ulen) (k0_pay377 ulen (k0_pay367 y) (k0_pay368 (F := Ideal) (iota Kind.tc S512x1 32 [0] iota_S512x1_d0_w32) tlen) (k0_pay371 w acc ulen (k0_pay365 a) (k0_pay366 l) (k0_pay367 y) (k0_pay368 (F := Ideal) (iota Kind.tc S512x1 32 [0] iota_S512x1_d0_w32) tlen) (k0_pay370 (F := Ideal) (iota Kind.tc S512x1 32 [0] iota_S512x1_d0_w32) tlen ulen) (iota Kind.tc S512x65 32 [1] iota_S512x65_d1_w32)) (k0_pay372 (k0_pay369 (F := Ideal) (iota Kind.tc S512x1 32 [0] iota_S512x1_d0_w32) tlen ulen)) (k0_pay373 (F := Ideal) (k0_pay369 (F := Ideal) (iota Kind.tc S512x1 32 [0] iota_S512x1_d0_w32) tlen ulen)) (k0_pay374 w (k0_pay365 a) (k0_pay366 l) (k0_pay369 (F := Ideal) (iota Kind.tc S512x1 32 [0] iota_S512x1_d0_w32) tlen ulen)) (k0_pay375 w (k0_pay365 a) (k0_pay366 l) (k0_pay369 (F := Ideal) (iota Kind.tc S512x1 32 [0] iota_S512x1_d0_w32) tlen ulen)) (k0_pay376 w (k0_pay365 a) (k0_pay366 l) (k0_pay369 (F := Ideal) (iota Kind.tc S512x1 32 [0] iota_S512x1_d0_w32) tlen ulen))) (k0_pay381 w (k0_pay365 a) (k0_pay366 l) (k0_pay369 (F := Ideal) (iota Kind.tc S512x1 32 [0] iota_S512x1_d0_w32) tlen ulen)) (k0_pay382 w (k0_pay365 a) (k0_pay366 l) (k0_pay367 y) (k0_pay369 (F := Ideal) (iota Kind.tc S512x1 32 [0] iota_S512x1_d0_w32) tlen ulen)) (k0_pay383 w (k0_pay365 a) (k0_pay366 l) (k0_pay369 (F := Ideal) (iota Kind.tc S512x1 32 [0] iota_S512x1_d0_w32) tlen ulen)) (k0_pay384 (F := Ideal) ulen (k0_pay369 (F := Ideal) (iota Kind.tc S512x1 32 [0] iota_S512x1_d0_w32) tlen ulen))) (k0_pay386 (k0_pay369 (F := Ideal) (iota Kind.tc S512x1 32 [0] iota_S512x1_d0_w32) tlen ulen)) (iota Kind.tc S512x65 32 [1] iota_S512x65_d1_w32))
      = batchS w acc tlen ulen a l y := by
  rfl

/-- The seventh batch. -/
theorem batch6_eq (w : FVec Ideal S512x500 .f32) (acc : FVec Ideal S1x1 .f32) (tlen ulen : BitVec 32) (a : FVec Ideal S1x512x512 .f32)
    (l : FVec Ideal S1x65x512 .f32) (y : FVec Ideal S1x65x500 .f32) :
    (k0_pay410 ulen (k0_pay391 (F := Ideal) (iota Kind.tc S512x1 32 [0] iota_S512x1_d0_w32) tlen) (k0_pay404 ulen (k0_pay390 y) (k0_pay391 (F := Ideal) (iota Kind.tc S512x1 32 [0] iota_S512x1_d0_w32) tlen) (k0_pay399 w ulen (k0_pay388 a) (k0_pay389 l) (k0_pay390 y) (k0_pay391 (F := Ideal) (iota Kind.tc S512x1 32 [0] iota_S512x1_d0_w32) tlen) (k0_pay392 (F := Ideal) (iota Kind.tc S512x1 32 [0] iota_S512x1_d0_w32) tlen ulen) (k0_pay398 w acc ulen (k0_pay388 a) (k0_pay389 l) (k0_pay390 y) (k0_pay391 (F := Ideal) (iota Kind.tc S512x1 32 [0] iota_S512x1_d0_w32) tlen) (k0_pay392 (F := Ideal) (iota Kind.tc S512x1 32 [0] iota_S512x1_d0_w32) tlen ulen) (k0_pay393 (F := Ideal) (iota Kind.tc S512x1 32 [0] iota_S512x1_d0_w32) tlen ulen) (k0_pay395 w (iota Kind.tc S512x1 32 [0] iota_S512x1_d0_w32) tlen ulen (k0_pay388 a) (k0_pay389 l)) (k0_pay396 w (iota Kind.tc S512x1 32 [0] iota_S512x1_d0_w32) tlen ulen (k0_pay388 a) (k0_pay389 l)) (k0_pay397 w (iota Kind.tc S512x1 32 [0] iota_S512x1_d0_w32) tlen ulen (k0_pay388 a) (k0_pay389 l) (k0_pay390 y))) 2#32) (k0_pay400 (k0_pay392 (F := Ideal) (iota Kind.tc S512x1 32 [0] iota_S512x1_d0_w32) tlen ulen)) (k0_pay401 (F := Ideal) (k0_pay392 (F := Ideal) (iota Kind.tc S512x1 32 [0] iota_S512x1_d0_w32) tlen ulen)) (k0_pay402 w (k0_pay388 a) (k0_pay389 l) (k0_pay392 (F := Ideal) (iota Kind.tc S512x1 32 [0] iota_S512x1_d0_w32) tlen ulen)) (k0_pay403 w (k0_pay388 a) (k0_pay389 l) (k0_pay392 (F := Ideal) (iota Kind.tc S512x1 32 [0] iota_S512x1_d0_w32) tlen ulen))) (k0_pay405 (k0_pay392 (F := Ideal) (iota Kind.tc S512x1 32 [0] iota_S512x1_d0_w32) tlen ulen)) (k0_pay407 w (k0_pay388 a) (k0_pay389 l) (k0_pay392 (F := Ideal) (iota Kind.tc S512x1 32 [0] iota_S512x1_d0_w32) tlen ulen)) (k0_pay408 w (k0_pay388 a) (k0_pay389 l) (k0_pay392 (F := Ideal) (iota Kind.tc S512x1 32 [0] iota_S512x1_d0_w32) tlen ulen)) (k0_pay409 w (k0_pay388 a) (k0_pay389 l) (k0_pay390 y) (k0_pay392 (F := Ideal) (iota Kind.tc S512x1 32 [0] iota_S512x1_d0_w32) tlen ulen)))
      = batchS w acc tlen ulen a l y := by
  rfl

/-- The eighth batch. -/
theorem batch7_eq (w : FVec Ideal S512x500 .f32) (acc : FVec Ideal S1x1 .f32) (tlen ulen : BitVec 32) (a : FVec Ideal S1x512x512 .f32)
    (l : FVec Ideal S1x65x512 .f32) (y : FVec Ideal S1x65x500 .f32) :
    (k0_pay429 w ulen (k0_pay411 a) (k0_pay412 l) (k0_pay413 y) (k0_pay414 (F := Ideal) (iota Kind.tc S512x1 32 [0] iota_S512x1_d0_w32) tlen) (k0_pay416 (Scalar.maxsi (Scalar.subi (Scalar.addi ulen 1#32) 5#32) 0#32) (k0_pay415 (F := Ideal) (iota Kind.tc S512x1 32 [0] iota_S512x1_d0_w32) tlen ulen)) (k0_pay427 ulen (k0_pay414 (F := Ideal) (iota Kind.tc S512x1 32 [0] iota_S512x1_d0_w32) tlen) (k0_pay421 w ulen (k0_pay413 y) (k0_pay414 (F := Ideal) (iota Kind.tc S512x1 32 [0] iota_S512x1_d0_w32) tlen) (k0_pay417 w acc ulen (k0_pay411 a) (k0_pay412 l) (k0_pay413 y) (k0_pay414 (F := Ideal) (iota Kind.tc S512x1 32 [0] iota_S512x1_d0_w32) tlen) (Scalar.maxsi (Scalar.subi (Scalar.addi ulen 1#32) 5#32) 0#32) (k0_pay415 (F := Ideal) (iota Kind.tc S512x1 32 [0] iota_S512x1_d0_w32) tlen ulen)) (k0_pay418 (Scalar.maxsi (Scalar.subi (Scalar.addi ulen 1#32) 5#32) 0#32) (k0_pay415 (F := Ideal) (iota Kind.tc S512x1 32 [0] iota_S512x1_d0_w32) tlen ulen)) (k0_pay419 (F := Ideal) (Scalar.maxsi (Scalar.subi (Scalar.addi ulen 1#32) 5#32) 0#32) (k0_pay415 (F := Ideal) (iota Kind.tc S512x1 32 [0] iota_S512x1_d0_w32) tlen ulen)) (k0_pay420 (k0_pay411 a) (k0_pay412 l) (Scalar.maxsi (Scalar.subi (Scalar.addi ulen 1#32) 5#32) 0#32) (k0_pay415 (F := Ideal) (iota Kind.tc S512x1 32 [0] iota_S512x1_d0_w32) tlen ulen)) (constant S512x500 FTy.f32 0#32)) (k0_pay422 (k0_pay416 (Scalar.maxsi (Scalar.subi (Scalar.addi ulen 1#32) 5#32) 0#32) (k0_pay415 (F := Ideal) (iota Kind.tc S512x1 32 [0] iota_S512x1_d0_w32) tlen ulen))) (k0_pay424 w (k0_pay411 a) (k0_pay412 l) (k0_pay416 (Scalar.maxsi (Scalar.subi (Scalar.addi ulen 1#32) 5#32) 0#32) (k0_pay415 (F := Ideal) (iota Kind.tc S512x1 32 [0] iota_S512x1_d0_w32) tlen ulen))) (k0_pay425 w (k0_pay411 a) (k0_pay412 l) (k0_pay416 (Scalar.maxsi (Scalar.subi (Scalar.addi ulen 1#32) 5#32) 0#32) (k0_pay415 (F := Ideal) (iota Kind.tc S512x1 32 [0] iota_S512x1_d0_w32) tlen ulen))) (k0_pay426 w (k0_pay411 a) (k0_pay412 l) (k0_pay413 y) (k0_pay416 (Scalar.maxsi (Scalar.subi (Scalar.addi ulen 1#32) 5#32) 0#32) (k0_pay415 (F := Ideal) (iota Kind.tc S512x1 32 [0] iota_S512x1_d0_w32) tlen ulen)))) (k0_pay428 w ulen (k0_pay411 a) (k0_pay412 l) (k0_pay413 y) (k0_pay414 (F := Ideal) (iota Kind.tc S512x1 32 [0] iota_S512x1_d0_w32) tlen) (k0_pay416 (Scalar.maxsi (Scalar.subi (Scalar.addi ulen 1#32) 5#32) 0#32) (k0_pay415 (F := Ideal) (iota Kind.tc S512x1 32 [0] iota_S512x1_d0_w32) tlen ulen))))
      = fin (batchS w acc tlen ulen a l y) := by
  rfl

end Cert.KernelIdeal.Step

end
-- ==== Proof.Tower.lean ====
module

public import proofs.«01_k».proof.Proof.Batch

@[expose] public section

set_option maxRecDepth 16384

noncomputable section

open Idealize.ShloMosaic

namespace Cert.KernelIdeal.Step

open Cert.KernelIdeal Cert.KernelIdeal.Gen Cert.Reals Cert.Words
open Cert.Spec (cap)

/-- The encoder's output on one batch. -/
def encK (x : FVec Ideal S1x512x80 .f32) (w : FVec Ideal S80x512 .f32) (bi : FVec Ideal S1x512 .f32) : FVec Ideal S512x512 .f32 :=
  tanh (addf (matmul dot_S512x80_S80x512_S512x512_1_0_0_1_n_n none (shapeCast S512x80 x shapeCasts_S1x512x80_S512x80) w (constant S512x512 .f32 0x00000000#32))
    (broadcastTo S512x512 (shapeCast S1x512 bi shapeCasts_S1x512_S1x512) broadcasts_S1x512_S512x512))

/-- The logits of the ctc head on one batch. -/
def ctcL (x : FVec Ideal S1x512x80 .f32) (w : FVec Ideal S80x512 .f32) (bi : FVec Ideal S1x512 .f32) (cw : FVec Ideal S512x500 .f32) : FVec Ideal S512x500 .f32 :=
  matmul dot_S512x512_S512x500_S512x500_1_0_0_1_n_n none (encK x w bi) cw (constant S512x500 .f32 0x00000000#32)

/-- The log probabilities of the ctc head on one batch. -/
def ctcK (x : FVec Ideal S1x512x80 .f32) (w : FVec Ideal S80x512 .f32) (bi : FVec Ideal S1x512 .f32) (cw : FVec Ideal S512x500 .f32) : FVec Ideal S1x512x500 .f32 :=
  shapeCast S1x512x500 (subf (ctcL x w bi cw) (broadcastTo S512x500 (lse (ctcL x w bi cw)) broadcasts_S512x1_S512x500)) shapeCasts_S512x500_S1x512x500

/-- The encoder's output on one batch, projected. -/
def amK (x : FVec Ideal S1x512x80 .f32) (w : FVec Ideal S80x512 .f32) (bi : FVec Ideal S1x512 .f32) (jw : FVec Ideal S512x512 .f32) : FVec Ideal S1x512x512 .f32 :=
  shapeCast S1x512x512 (matmul dot_S512x512_S512x512_S512x512_1_0_0_1_n_n none (encK x w bi) jw (constant S512x512 .f32 0x00000000#32)) shapeCasts_S512x512_S1x512x512

/-- What the eight batches store for the ctc head. -/
theorem ctc_eq (x : FVec Ideal S1x512x80 .f32) (w : FVec Ideal S80x512 .f32) (b : FVec Ideal S1x512 .f32) (c : FVec Ideal S512x500 .f32) :
    k0_pay136 x w b c = ctcK x w b c
    ∧ k0_pay149 (k0_pay146 x w b c) (k0_pay147 x w b c) (k0_pay148 x w b c) = ctcK x w b c
    ∧ k0_pay156 x w b c = ctcK x w b c
    ∧ k0_pay168 (k0_pay166 x w b c) (k0_pay167 x w b c) = ctcK x w b c
    ∧ k0_pay176 x w b c = ctcK x w b c
    ∧ k0_pay188 (k0_pay187 x w b c) = ctcK x w b c
    ∧ k0_pay198 (k0_pay196 x) w b c = ctcK x w b c
    ∧ k0_pay211 (k0_pay210 x w b c) = ctcK x w b c :=
  ⟨rfl, rfl, rfl, rfl, rfl, rfl, rfl, rfl⟩

/-- What the eight batches store for the encoder's projection. -/
theorem am_eq (x : FVec Ideal S1x512x80 .f32) (w : FVec Ideal S80x512 .f32) (b : FVec Ideal S1x512 .f32) (j : FVec Ideal S512x512 .f32) :
    k0_pay138 x w b j = amK x w b j
    ∧ k0_pay151 (k0_pay145 x w b) j = amK x w b j
    ∧ k0_pay158 x w b j = amK x w b j
    ∧ k0_pay170 (k0_pay165 x w b) j = amK x w b j
    ∧ k0_pay178 x w b j = amK x w b j
    ∧ k0_pay190 (k0_pay186 x w b) j = amK x w b j
    ∧ k0_pay200 (k0_pay196 x) w b j = amK x w b j
    ∧ k0_pay213 (k0_pay209 x w b) j = amK x w b j :=
  ⟨rfl, rfl, rfl, rfl, rfl, rfl, rfl, rfl⟩

/-- The encoder's output at a frame. -/
theorem encK_apply (x : FVec Ideal S1x512x80 .f32) (w : FVec Ideal S80x512 .f32) (bi : FVec Ideal S1x512 .f32) (t d : Fin 512) :
    encK x w bi (ix2 t d) = Ideal.tanh (∑ f : Fin 80, x (ix3 0 t f) * w (ix2 f d) + bi (ix2 0 d)) := by
  pointwise [encK]

/-- The logits of the ctc head at a frame. -/
theorem ctcL_apply (x : FVec Ideal S1x512x80 .f32) (w : FVec Ideal S80x512 .f32) (bi : FVec Ideal S1x512 .f32) (cw : FVec Ideal S512x500 .f32) (t : Fin 512) (v : Fin 500) :
    ctcL x w bi cw (ix2 t v) = ∑ d : Fin 512, encK x w bi (ix2 t d) * cw (ix2 d v) := by
  pointwise [ctcL]

/-- The encoder's projection at a frame. -/
theorem amK_apply (x : FVec Ideal S1x512x80 .f32) (w : FVec Ideal S80x512 .f32) (bi : FVec Ideal S1x512 .f32) (jw : FVec Ideal S512x512 .f32) (t e : Fin 512) :
    amK x w bi jw (ix3 0 t e) = ∑ d : Fin 512, encK x w bi (ix2 t d) * jw (ix2 d e) := by
  pointwise [amK]

/-- The log probabilities of the ctc head at a frame. -/
theorem ctcK_apply (x : FVec Ideal S1x512x80 .f32) (w : FVec Ideal S80x512 .f32) (bi : FVec Ideal S1x512 .f32) (cw : FVec Ideal S512x500 .f32) (t : Fin 512) (v : Fin 500) :
    ctcK x w bi cw (ix3 0 t v) = ctcL x w bi cw (ix2 t v) - lse (ctcL x w bi cw) (ix2 t 0) := by
  pointwise [ctcK]

/-- The one hot labels. -/
theorem oh_apply (y : IVec S520x1 32) (r : Fin 520) (k : Fin 500) (h : y (ix2 r 0) = BitVec.ofNat 32 k.val) (v : Fin 500) :
    k0_pay105 (F := Ideal) y (ix2 r v) = if v = k then 1 else 0 := by
  have e : k0_pay105 (F := Ideal) y (ix2 r v) = FloatOps.sitofp (F := Ideal) .f32 (BitVec.setWidth 32 (IntOp.cmpi .eq (BitVec.ofNat 32 v.val) (y (ix2 r 0)))) := by
    pointwise [k0_pay105]
  rw [e, bit_num, h]
  simp only [eq_bit (show v.val < 2147483648 by omega) (show k.val < 2147483648 by omega), Fin.ext_iff]

/-- The projected decoder outputs, from the labels as one column. -/
theorem lm_apply (y : IVec S520x1 32) (emb : FVec Ideal S500x512 .f32) (w jd : FVec Ideal S512x512 .f32) (r : Fin 520) (e : Fin 512)
    (k : Fin 500) (h : y (ix2 r 0) = BitVec.ofNat 32 k.val) :
    k0_pay104 (F := Ideal) y emb w jd (ix2 r e) = ∑ d : Fin 512, Ideal.tanh (∑ q : Fin 512, emb (ix2 k q) * w (ix2 q d)) * jd (ix2 d e) := by
  have e1 : k0_pay104 (F := Ideal) y emb w jd (ix2 r e) = ∑ d : Fin 512, Ideal.tanh (∑ q : Fin 512,
      (∑ v : Fin 500, k0_pay105 (F := Ideal) y (ix2 r v) * emb (ix2 v q)) * w (ix2 q d)) * jd (ix2 d e) := by
    pointwise [k0_pay104, k0_pay102, k0_pay105]
  rw [e1]
  simp only [oh_apply y r k h, ite_mul, one_mul, zero_mul, Finset.sum_ite_eq', Finset.mem_univ, if_true]

/-- A batch's rows of the decoder's projection. -/
theorem lslice (off : ℕ) (ho : off ≤ 455) (x : FVec Ideal S520x512 .f32) (h1) (h2) (u : Fin 65) (e : Fin 512) :
    shapeCast S1x65x512 (extractStridedSlice S65x512 ![off, 0] x h1) h2 (ix3 0 u e) = x (ix2 ⟨off + u.val, by omega⟩ e) := by
  pointwise []

/-- A batch's rows of the one hot labels. -/
theorem yslice (off : ℕ) (ho : off ≤ 455) (x : FVec Ideal S520x500 .f32) (h1) (h2) (u : Fin 65) (e : Fin 500) :
    shapeCast S1x65x500 (extractStridedSlice S65x500 ![off, 0] x h1) h2 (ix3 0 u e) = x (ix2 ⟨off + u.val, by omega⟩ e) := by
  pointwise []

/-- What one batch adds to the accumulator, from what its pieces are. -/
theorem batchS_apply (b : Fin 8) (am : Fin 8 → Fin 512 → Fin 512 → EReal) (lm : Fin 8 → Fin 65 → Fin 512 → EReal)
    (Y : IVec S8x64 32) (w : FVec Ideal S512x500 .f32) (acc : FVec Ideal S1x1 .f32) (tlen ulen : BitVec 32) (a : FVec Ideal S1x512x512 .f32)
    (l : FVec Ideal S1x65x512 .f32) (y : FVec Ideal S1x65x500 .f32)
    (hu : 32 ≤ ulen.toNat ∧ ulen.toNat ≤ 64) (ht : 256 ≤ tlen.toNat ∧ tlen.toNat ≤ 512)
    (hw : ∀ d v, IsReal (w (ix2 d v)))
    (ha : ∀ t e, a (ix3 0 t e) = am b t e) (hl : ∀ u e, l (ix3 0 u e) = lm b u e)
    (hy : ∀ u v, y (ix3 0 u v) = if v = cap 499 (Spec.ext Y b u).toNat then 1 else 0) (i : S1x1.Idx) :
    batchS w acc tlen ulen a l y i = acc i + ∑ t : Fin 512, ∑ s : Fin 5, Spec.term (Spec.logit am lm w) Y tlen.toNat ulen.toNat b t s := by
  have ea : ∀ t e, shapeCast S512x512 a shapeCasts_S1x512x512_S512x512 (ix2 t e) = a (ix3 0 t e) := fun t e => by pointwise []
  have el : ∀ u e, shapeCast S65x512 l shapeCasts_S1x65x512_S65x512 (ix2 u e) = l (ix3 0 u e) := fun u e => by pointwise []
  have ey : ∀ u v, shapeCast S65x500 y shapeCasts_S1x65x500_S65x500 (ix2 u v) = y (ix3 0 u v) := fun u v => by pointwise []
  unfold batchS
  rw [batch_apply _ _ _ _ acc hu ht hw (fun u => cap 499 (Spec.ext Y b u).toNat) (fun u v => by rw [ey, hy])]
  simp only [ea, ha, el, hl]
  rfl

/-- The last step at its entry. -/
theorem fin_apply (acc : FVec Ideal S1x1 .f32) (i : S1x1.Idx) :
    fin acc i = Ideal.div (-acc i) (Ideal.ofBits .f32 1084227584#32) := by
  have e : fin acc i = Ideal.div (0 - acc i) (Ideal.ofBits .f32 1084227584#32) := by
    pointwise [fin]
  rw [e, zero_sub]

/-- The accumulator starts at zero. -/
theorem init_apply (i : S1x1.Idx) : k0_pay247 (F := Ideal) i = 0 := by
  pointwise [k0_pay247]

end Cert.KernelIdeal.Step

end
-- ==== Proof.KRead.lean ====
module

public import proofs.«01_k».proof.Proof.Gen.KernelIdeal.Value
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Tower

@[expose] public section

set_option maxRecDepth 16384

noncomputable section

open Idealize.ShloMosaic Idealize.ShloMosaic.TcCoe Idealize.SL.Sem
open Idealize.ShloMosaic.Pipeline (Dat)

namespace Cert.KernelIdeal.Read

open Cert.KernelIdeal Cert.KernelIdeal.Gen Cert.KernelIdeal.Value Cert.KernelIdeal.Step Cert.Reals
open Cert.Spec (cap lsm encmul enc)

variable (m : (ℓ : Loc nD τ sig) → Buf (Elt Ideal) ℓ)

/-- The frames. -/
abbrev K0 (c : Dev nD) : FVec Ideal S8x512x80 .f32 := m ((c : Thread nD τ).loc main_arg0)
/-- The lengths in frames. -/
abbrev K1 (c : Dev nD) : IVec S8 32 := m ((c : Thread nD τ).loc main_arg1)
/-- The labels. -/
abbrev K2 (c : Dev nD) : IVec S8x64 32 := m ((c : Thread nD τ).loc main_arg2)
/-- The lengths in labels. -/
abbrev K3 (c : Dev nD) : IVec S8 32 := m ((c : Thread nD τ).loc main_arg3)
/-- The encoder's matrix. -/
abbrev K4 (c : Dev nD) : FVec Ideal S80x512 .f32 := m ((c : Thread nD τ).loc main_arg4)
/-- The encoder's bias. -/
abbrev K5 (c : Dev nD) : FVec Ideal S512 .f32 := m ((c : Thread nD τ).loc main_arg5)
/-- The decoder's embedding. -/
abbrev K6 (c : Dev nD) : FVec Ideal S500x512 .f32 := m ((c : Thread nD τ).loc main_arg6)
/-- The decoder's matrix. -/
abbrev K7 (c : Dev nD) : FVec Ideal S512x512 .f32 := m ((c : Thread nD τ).loc main_arg7)
/-- The joiner's matrix of the encoder. -/
abbrev K8 (c : Dev nD) : FVec Ideal S512x512 .f32 := m ((c : Thread nD τ).loc main_arg8)
/-- The joiner's matrix of the decoder. -/
abbrev K9 (c : Dev nD) : FVec Ideal S512x512 .f32 := m ((c : Thread nD τ).loc main_arg9)
/-- The joiner's output matrix. -/
abbrev K10 (c : Dev nD) : FVec Ideal S512x500 .f32 := m ((c : Thread nD τ).loc main_arg10)
/-- The matrix of the ctc head. -/
abbrev K13 (c : Dev nD) : FVec Ideal S512x500 .f32 := m ((c : Thread nD τ).loc main_arg13)

/-- Every window stays at the array's first block. -/
theorem idx : ∀ t : Fin cfg0.N, win0_0.index t = ![0, 0, 0] ∧ win0_4.index t = ![0] ∧ win0_5.index t = ![0] ∧ win0_6.index t = ![0, 0]
    ∧ win0_7.index t = ![0, 0] ∧ win0_8.index t = ![0, 0] ∧ win0_10.index t = ![0, 0] ∧ win0_11.index t = ![0, 0] ∧ win0_12.index t = ![0, 0]
    ∧ win0_13.index t = ![0, 0] ∧ win0_14.index t = ![0, 0] ∧ win0_16.index t = ![0, 0] ∧ win0_17.index t = ![0, 0] :=
  (by decide +kernel : ∀ t : Fin grid0.N, _)

/-- One batch's encoder output, from the frames of all batches. -/
theorem enc_ld (X : FVec Ideal S8x512x80 .f32) (W : FVec Ideal S80x512 .f32) (bias : FVec Ideal S512 .f32) (x : FVec Ideal S1x512x80 .f32) (bi : FVec Ideal S1x512 .f32)
    (hb : ∀ d, bi (ix2 0 d) = bias (ix1 d)) (b : Fin 8) (hx : ∀ t f, x (ix3 0 t f) = X (ix3 b t f)) (t d : Fin 512) :
    encK x W bi (ix2 t d) = enc X W bias b t d := by
  rw [encK_apply, hb]
  simp only [hx]
  rfl

/-- One batch's log probabilities of the ctc head, from the frames of all batches. -/
theorem ctc_piece (X : FVec Ideal S8x512x80 .f32) (W : FVec Ideal S80x512 .f32) (bias : FVec Ideal S512 .f32) (C : FVec Ideal S512x500 .f32)
    (x : FVec Ideal S1x512x80 .f32) (bi : FVec Ideal S1x512 .f32) (hb : ∀ d, bi (ix2 0 d) = bias (ix1 d)) (hC : ∀ d v, IsReal (C (ix2 d v)))
    (b : Fin 8) (hx : ∀ t f, x (ix3 0 t f) = X (ix3 b t f)) (t : Fin 512) (v : Fin 500) :
    ctcK x W bi C (ix3 0 t v) = lsm (fun k => encmul (n := 500) X W bias C b t k) v := by
  have e : ∀ k, ctcL x W bi C (ix2 t k) = encmul (n := 500) X W bias C b t k := fun k => by
    rw [ctcL_apply]
    exact Finset.sum_congr rfl fun d _ => by rw [enc_ld X W bias x bi hb b hx]
  rw [ctcK_apply, lse_apply]
  simp only [e]
  exact lsm_eq _ (isReal_ctc X W bias C hC b t) v

/-- One batch's slice of an array of three axes. -/
theorem ld3 (X : FVec Ideal S8x512x80 .f32) (n : ℕ) (b : Fin 8) (hn : n = b.val) (inb : ∀ a, (![n, 0, 0] : Fin 3 → ℕ) a + (![1, 512, 80] : Fin 3 → ℕ) a ≤ S8x512x80.size a)
    (t : Fin 512) (f : Fin 80) :
    View.ld (Val := Elt Ideal) (e' := .f32) (S := S8x512x80) X (Rect.unit ![n, 0, 0] ![1, 512, 80] inb) (ix3 0 t f) = X (ix3 b t f) := by
  refine View.ld_unit_apply_of (Val := Elt Ideal) (e := .f32) (S := S8x512x80) X ![n, 0, 0] ![1, 512, 80] inb _ _ fun a => ?_
  fin_cases a
  · exact hn.symm
  · show t.val = 0 + t.val; omega
  · show f.val = 0 + f.val; omega

/-- One batch's entry of an array of one axis. -/
theorem ld1 (X : IVec S8 32) (n : ℕ) (b : Fin 8) (hn : n = b.val) (inb : ∀ a, (![n] : Fin 1 → ℕ) a + (![1] : Fin 1 → ℕ) a ≤ S8.size a) (h : 0 < (⟨1, ![1]⟩ : Shape).numel) :
    View.ld (Val := Elt Ideal) (e' := .i32) (S := S8) X (Rect.unit ![n] ![1] inb) (Shape.Idx.first h) = X (ix1 b) := by
  refine View.ld_unit_apply_of (Val := Elt Ideal) (e := .i32) (S := S8) X ![n] ![1] inb _ _ fun a => ?_
  fin_cases a
  exact hn.symm

/-- The window of the frames. -/
theorem blk0 (c : Dev nD) : iblk m c 0 t0_0 = K0 m c := by
  blk_ext! [iblk, V, idx t0_0]
/-- The window of the lengths in frames. -/
theorem blk4 (c : Dev nD) : iblk m c 4 t0_0 = K1 m c := by
  blk_ext! [iblk, V, idx t0_0]
/-- The window of the lengths in labels. -/
theorem blk5 (c : Dev nD) : iblk m c 5 t0_0 = K3 m c := by
  blk_ext! [iblk, V, idx t0_0]
/-- The window of the encoder's matrix. -/
theorem blk6 (c : Dev nD) : iblk m c 6 t0_0 = K4 m c := by
  blk_ext! [iblk, V, idx t0_0]
/-- The window of the ctc head's matrix. -/
theorem blk8 (c : Dev nD) : iblk m c 8 t0_0 = K13 m c := by
  blk_ext! [iblk, V, idx t0_0]
/-- The window of the joiner's matrix of the encoder. -/
theorem blk10 (c : Dev nD) : iblk m c 10 t0_0 = K8 m c := by
  blk_ext! [iblk, V, idx t0_0]
/-- The window of the decoder's embedding. -/
theorem blk13 (c : Dev nD) : iblk m c 13 t0_0 = K6 m c := by
  blk_ext! [iblk, V, idx t0_0]
/-- The window of the decoder's matrix. -/
theorem blk14 (c : Dev nD) : iblk m c 14 t0_0 = K7 m c := by
  blk_ext! [iblk, V, idx t0_0]
/-- The window of the joiner's matrix of the decoder. -/
theorem blk16 (c : Dev nD) : iblk m c 16 t0_0 = K9 m c := by
  blk_ext! [iblk, V, idx t0_0]
/-- The window of the joiner's output matrix. -/
theorem blk17 (c : Dev nD) : iblk m c 17 t0_0 = K10 m c := by
  blk_ext! [iblk, V, idx t0_0]

/-- The bias as a row. -/
theorem blk7 (c : Dev nD) (d : Fin 512) : (iblk m c 7 t0_0 : FVec Ideal S1x512 .f32) (ix2 0 d) = K5 m c (ix1 d) := by
  blk_point [iblk, V, idx t0_0]
/-- The labels with the start symbol in front, as one column. -/
theorem blk11 (c : Dev nD) (b : Fin 8) (u : Fin 65) (r : Fin 520) (hr : r.val = 65 * b.val + u.val) :
    (iblk m c 11 t0_0 : IVec S520x1 32) (ix2 r 0) = Spec.sos (K2 m c) b u := by
  have p : (win0_11.blk t0_0).view.emb (ix2 r 0) = (ix2 r 0 : S520x1.Idx) := by
    blk_ext [iblk, V, idx t0_0]
  have h1 : r.val / 65 = b.val := by omega
  have h2 : r.val % 65 = u.val := by omega
  refine (congrArg (V m c main_v2) p).trans ?_
  entry_read
  pointwise [Spec.sos]
  simp only [h1, h2]
  by_cases h : u.val = 0
  · rw [dif_pos (by omega), dif_pos h]
  · rw [dif_neg (by omega), dif_neg h]

/-- The labels with a blank at the end, as one column. -/
theorem blk12 (c : Dev nD) (b : Fin 8) (u : Fin 65) (r : Fin 520) (hr : r.val = 65 * b.val + u.val) :
    (iblk m c 12 t0_0 : IVec S520x1 32) (ix2 r 0) = Spec.ext (K2 m c) b u := by
  have p : (win0_12.blk t0_0).view.emb (ix2 r 0) = (ix2 r 0 : S520x1.Idx) := by
    blk_ext [iblk, V, idx t0_0]
  have h1 : r.val / 65 = b.val := by omega
  have h2 : r.val % 65 = u.val := by omega
  refine (congrArg (V m c main_v5) p).trans ?_
  entry_read
  pointwise [Spec.ext]
  simp only [h1, h2]

end Cert.KernelIdeal.Read

end
-- ==== Proof.KOut.lean ====
module

public import proofs.«01_k».proof.Proof.Gen.KernelIdeal.Value
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.KRead

@[expose] public section

set_option maxRecDepth 16384

noncomputable section

open Idealize.ShloMosaic Idealize.ShloMosaic.TcCoe Idealize.SL.Sem
open Idealize.ShloMosaic.Pipeline (Dat)

namespace Cert.KernelIdeal.Read

open Cert.KernelIdeal Cert.KernelIdeal.Gen Cert.KernelIdeal.Value Cert.KernelIdeal.Step Cert.Reals
open Cert.Spec (cap lsm encmul enc)

variable (m : (ℓ : Loc nD τ sig) → Buf (Elt Ideal) ℓ)

/-- One batch's store of the ctc head, at an index of the result. -/
theorem piece (c : Dev nD) (hC : ∀ d v, IsReal (K13 m c (ix2 d v))) (n : ℕ)
    (inb : ∀ a, (![n, 0, 0] : Fin 3 → ℕ) a + (![1, 512, 80] : Fin 3 → ℕ) a ≤ S8x512x80.size a)
    (x : S1x512x500.Idx) (j : S8x512x500.Idx) (h0 : (j 0).val = n + (x 0).val) (h1 : (j 1).val = (x 1).val) (h2 : (j 2).val = (x 2).val) :
    ctcK (View.ld (Val := Elt Ideal) (e' := .f32) (S := S8x512x80) (iblk m c 0 t0_0) (Rect.unit ![n, 0, 0] ![1, 512, 80] inb))
      (iblk m c 6 t0_0) (iblk m c 7 t0_0) (iblk m c 8 t0_0) x
      = lsm (fun k => encmul (n := 500) (K0 m c) (K4 m c) (K5 m c) (K13 m c) (j 0) (j 1) k) (j 2) := by
  have x0 : (x 0).val = 0 := by have : (x 0).val < 1 := (x 0).isLt; omega
  have ex : x = ix3 0 (j 1) (j 2) := by
    rw [eq_ix3 x]
    congr 1
    · exact Fin.ext x0
    · exact Fin.ext h1.symm
    · exact Fin.ext h2.symm
  rw [ex, blk0, blk6, blk8]
  exact ctc_piece _ _ _ _ _ _ (blk7 m c) hC (j 0) (fun t f => ld3 (K0 m c) n (j 0) (by omega) inb t f) (j 1) (j 2)

set_option maxHeartbeats 1000000 in
/-- The ctc head's result. -/
theorem arr18 (c : Dev nD) (hC : ∀ d v, IsReal (K13 m c (ix2 d v))) : (dats m 0 c).arrAt 18 cfg0.N
    = fun j : S8x512x500.Idx => lsm (fun k => encmul (n := 500) (K0 m c) (K4 m c) (K5 m c) (K13 m c) (j 0) (j 1) k) (j 2) := by
  refine (dats m 0 c).arrAt_eq_of_after_last 18 t0_0 (by decide +kernel) _ fun j => ?_
  blk_simp
  rw [after0_18]
  unfold outsAt0
  frame_out
  simp only [read_unread_whole]
  canon_tiles x h
  · exact (congrFun (ctc_eq _ _ _ _).2.2.2.2.2.2.2 x).trans (piece m c hC 7 _ x j h0 h1 h2)
  · exact (congrFun (ctc_eq _ _ _ _).2.2.2.2.2.2.1 x).trans (piece m c hC 6 _ x j h0 h1 h2)
  · exact (congrFun (ctc_eq _ _ _ _).2.2.2.2.2.1 x).trans (piece m c hC 5 _ x j h0 h1 h2)
  · exact (congrFun (ctc_eq _ _ _ _).2.2.2.2.1 x).trans (piece m c hC 4 _ x j h0 h1 h2)
  · exact (congrFun (ctc_eq _ _ _ _).2.2.2.1 x).trans (piece m c hC 3 _ x j h0 h1 h2)
  · exact (congrFun (ctc_eq _ _ _ _).2.2.1 x).trans (piece m c hC 2 _ x j h0 h1 h2)
  · exact (congrFun (ctc_eq _ _ _ _).2.1 x).trans (piece m c hC 1 _ x j h0 h1 h2)
  · exact (congrFun (ctc_eq _ _ _ _).1 x).trans (piece m c hC 0 _ x j (by omega) h1 h2)

/-- The encoder's projection, as the kernel computes it. -/
def amP (c : Dev nD) (b : Fin 8) (t e : Fin 512) : EReal := encmul (n := 512) (K0 m c) (K4 m c) (K5 m c) (K8 m c) b t e

/-- The decoder's projection, as the kernel computes it. -/
def lmP (c : Dev nD) (b : Fin 8) (u : Fin 65) (e : Fin 512) : EReal := Spec.lmp (K6 m c) (K7 m c) (K9 m c) (K2 m c) b u e

/-- The integers are in range. -/
structure Ok (c : Dev nD) : Prop where
  ht : ∀ b : Fin 8, 256 ≤ (K1 m c (ix1 b)).toNat ∧ (K1 m c (ix1 b)).toNat ≤ 512
  hu : ∀ b : Fin 8, 32 ≤ (K3 m c (ix1 b)).toNat ∧ (K3 m c (ix1 b)).toNat ≤ 64
  hy : ∀ (b : Fin 8) (u : Fin 64), 1 ≤ (K2 m c (ix2 b u)).toNat ∧ (K2 m c (ix2 b u)).toNat < 500

/-- The sum that the kernel's pruned loss is made of, one batch's part. -/
def part (c : Dev nD) (b : Fin 8) : EReal := ∑ t : Fin 512, ∑ s : Fin 5,
  Spec.term (Spec.logit (amP m c) (lmP m c) (K10 m c)) (K2 m c) (K1 m c (ix1 b)).toNat (K3 m c (ix1 b)).toNat b t s

/-- What one batch adds to the accumulator, from the windows. -/
theorem batch_read (c : Dev nD) (h : Ok m c) (hw : ∀ d v, IsReal (K10 m c (ix2 d v))) (acc : FVec Ideal S1x1 .f32) (n : ℕ) (b : Fin 8) (hn : n = b.val)
    (inb : ∀ a, (![n, 0, 0] : Fin 3 → ℕ) a + (![1, 512, 80] : Fin 3 → ℕ) a ≤ S8x512x80.size a)
    (inb' : ∀ a, (![n] : Fin 1 → ℕ) a + (![1] : Fin 1 → ℕ) a ≤ S8.size a) (hf hf' : 0 < (⟨1, ![1]⟩ : Shape).numel)
    (off : ℕ) (ho : off = 65 * n) (h1) (h2) (h3) (h4) (i : S1x1.Idx) :
    batchS (iblk m c 17 t0_0) acc
      (View.ld (Val := Elt Ideal) (e' := .i32) (S := S8) (iblk m c 4 t0_0) (Rect.unit ![n] ![1] inb') (Shape.Idx.first hf))
      (View.ld (Val := Elt Ideal) (e' := .i32) (S := S8) (iblk m c 5 t0_0) (Rect.unit ![n] ![1] inb') (Shape.Idx.first hf'))
      (amK (View.ld (Val := Elt Ideal) (e' := .f32) (S := S8x512x80) (iblk m c 0 t0_0) (Rect.unit ![n, 0, 0] ![1, 512, 80] inb))
        (iblk m c 6 t0_0) (iblk m c 7 t0_0) (iblk m c 10 t0_0))
      (shapeCast S1x65x512 (extractStridedSlice S65x512 ![off, 0]
        (k0_pay104 (F := Ideal) (iblk m c 11 t0_0) (iblk m c 13 t0_0) (iblk m c 14 t0_0) (iblk m c 16 t0_0)) h1) h2)
      (shapeCast S1x65x500 (extractStridedSlice S65x500 ![off, 0] (k0_pay105 (F := Ideal) (iblk m c 12 t0_0)) h3) h4) i
    = acc i + part m c b := by
  have hb := b.isLt
  rw [blk17, blk4, blk5, blk0, blk6, blk10, blk13, blk14, blk16, ld1 _ n b hn inb' hf, ld1 _ n b hn inb' hf']
  refine batchS_apply b (amP m c) (lmP m c) (K2 m c) _ acc _ _ _ _ _ (h.hu b) (h.ht b) hw (fun t e => ?_) (fun u e => ?_) (fun u v => ?_) i
  · rw [amK_apply]
    unfold amP encmul
    refine Finset.sum_congr rfl fun d _ => ?_
    rw [enc_ld (K0 m c) (K4 m c) (K5 m c) _ _ (blk7 m c) b (fun t f => ld3 (K0 m c) n b hn inb t f)]
  · rw [lslice off (by omega)]
    have q : (Spec.sos (K2 m c) b u).toNat < 500 := by
      unfold Spec.sos
      split
      · decide
      · exact (h.hy b _).2
    rw [lm_apply _ _ _ _ _ e (cap 499 (Spec.sos (K2 m c) b u).toNat)]
    · rfl
    · rw [blk11 m c b u _ (by show off + u.val = _; omega)]
      rw [show (cap 499 (Spec.sos (K2 m c) b u).toNat).val = (Spec.sos (K2 m c) b u).toNat from min_eq_left (by omega), Words.ofNat_toNat]
  · rw [yslice off (by omega)]
    have q : (Spec.ext (K2 m c) b u).toNat < 500 := by
      unfold Spec.ext
      split
      · exact (h.hy b _).2
      · decide
    rw [oh_apply _ _ (cap 499 (Spec.ext (K2 m c) b u).toNat)]
    rw [blk12 m c b u _ (by show off + u.val = _; omega)]
    rw [show (cap 499 (Spec.ext (K2 m c) b u).toNat).val = (Spec.ext (K2 m c) b u).toNat from min_eq_left (by omega), Words.ofNat_toNat]

set_option maxHeartbeats 4000000 in
/-- The pruned loss's result. -/
theorem arr20 (c : Dev nD) (h : Ok m c) (hw : ∀ d v, IsReal (K10 m c (ix2 d v))) : (dats m 0 c).arrAt 20 cfg0.N
    = fun _ : S1x1.Idx => Ideal.div (-∑ b : Fin 8, part m c b) (Ideal.ofBits .f32 1084227584#32) := by
  refine (dats m 0 c).arrAt_eq_of_after_last 20 t0_0 (by decide +kernel) _ fun j => ?_
  blk_simp
  rw [after0_20]
  unfold outsAt0
  dsimp only
  frame_open
  simp (disch := decide) only [↓ View.readCov_skip, ↓ View.readCov_cons_toLoadRect]
  frame_out
  simp only [read_unread_whole]
  refine (congrFun (batch7_eq _ _ _ _ _ _ _) j).trans ?_
  refine (fin_apply _ j).trans (congrArg (fun z => Ideal.div (-z) (Ideal.ofBits .f32 1084227584#32)) ?_)
  rw [Fin.sum_univ_eight]
  refine (batch_read m c h hw _ 7 7 rfl _ _ _ _ 455 rfl _ _ _ _ j).trans (congrArg (· + part m c 7) ?_)
  refine (congrFun (batch6_eq _ _ _ _ _ _ _) j).trans ?_
  refine (batch_read m c h hw _ 6 6 rfl _ _ _ _ 390 rfl _ _ _ _ j).trans (congrArg (· + part m c 6) ?_)
  refine (congrFun (batch5_eq _ _ _ _ _ _ _) j).trans ?_
  refine (batch_read m c h hw _ 5 5 rfl _ _ _ _ 325 rfl _ _ _ _ j).trans (congrArg (· + part m c 5) ?_)
  refine (congrFun (batch4_eq _ _ _ _ _ _ _) j).trans ?_
  refine (batch_read m c h hw _ 4 4 rfl _ _ _ _ 260 rfl _ _ _ _ j).trans (congrArg (· + part m c 4) ?_)
  refine (congrFun (batch3_eq _ _ _ _ _ _ _) j).trans ?_
  refine (batch_read m c h hw _ 3 3 rfl _ _ _ _ 195 rfl _ _ _ _ j).trans (congrArg (· + part m c 3) ?_)
  refine (congrFun (batch2_eq _ _ _ _ _ _ _) j).trans ?_
  refine (batch_read m c h hw _ 2 2 rfl _ _ _ _ 130 rfl _ _ _ _ j).trans (congrArg (· + part m c 2) ?_)
  refine (congrFun (batch1_eq _ _ _ _ _ _ _) j).trans ?_
  refine (batch_read m c h hw _ 1 1 rfl _ _ _ _ 65 rfl _ _ _ _ j).trans (congrArg (· + part m c 1) ?_)
  refine (congrFun (batch0_eq _ _ _ _ _ _ _) j).trans ?_
  refine (batch_read m c h hw _ 0 0 rfl _ _ _ _ 0 rfl _ _ slices_S520x500_o0_0_S65x500 _ j).trans ?_
  rw [init_apply, zero_add]

end Cert.KernelIdeal.Read

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_inputs_in_range
public import proofs.«01_k».proof.Proof.Pre
public import proofs.«01_k».proof.Proof.Ref
public import proofs.«01_k».proof.Proof.KOut
public import Idealize.ShloMosaic.Lib.Claim
public import Idealize.ShloMosaic.Adequacy
public import Idealize.ShloMosaic.Init

@[expose] public section

noncomputable section

namespace Cert.Proof

open Idealize.ShloMosaic Idealize.ShloMosaic.StableHlo Idealize.SL.Sem
open Cert.KernelIdeal.Read (K0 K1 K2 K3 K4 K5 K6 K7 K8 K9 K10 K13 arr18 arr20 amP lmP part)
open Cert.ReferenceIdeal.Read (A0 A1 A2 A3 A4 A5 A6 A7 A8 A9 A10 A13 amR lmR total pruned_apply v6_apply)

/-- The idealized reference leaves its arguments as they were, and it declares no semaphore. -/
theorem frame_ri : Cert.quiescent_ReferenceIdeal := fun m g _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m g)

/-- The two launches are of the same arguments: what the two readings need of it. -/
structure Same (m : (ℓ : Loc Cert.KernelIdeal.nD Cert.KernelIdeal.τ Cert.KernelIdeal.sig) → Buf (Elt Ideal) ℓ) (c : Dev Cert.KernelIdeal.nD)
    (V0 : Valuation Cert.ReferenceIdeal.τ Cert.ReferenceIdeal.sig (Elt Ideal)) : Prop where
  e0 : A0 V0 = K0 m c
  e1 : A1 V0 = K1 m c
  e2 : A2 V0 = K2 m c
  e3 : A3 V0 = K3 m c
  e4 : A4 V0 = K4 m c
  e5 : A5 V0 = K5 m c
  e6 : A6 V0 = K6 m c
  e7 : A7 V0 = K7 m c
  e8 : A8 V0 = K8 m c
  e9 : A9 V0 = K9 m c
  e10 : A10 V0 = K10 m c
  e13 : A13 V0 = K13 m c

variable (m : (ℓ : Loc Cert.KernelIdeal.nD Cert.KernelIdeal.τ Cert.KernelIdeal.sig) → Buf (Elt Ideal) ℓ) (c : Dev Cert.KernelIdeal.nD)
  (V0 : Valuation Cert.ReferenceIdeal.τ Cert.ReferenceIdeal.sig (Elt Ideal))

/-- The two ranges of the integers are one. -/
theorem ok_same (s : Same m c V0) (h : Cert.KernelIdeal.Read.Ok m c) : Cert.ReferenceIdeal.Read.Ok V0 where
  ht := by rw [s.e1]; exact h.ht
  hu := by rw [s.e3]; exact h.hu
  hy := by rw [s.e2]; exact h.hy

/-- The two pruned losses are one. -/
theorem total_same (s : Same m c V0) : total V0 = ∑ b : Fin 8, part m c b := by
  have ha : amR V0 = amP m c := by
    unfold amR amP
    rw [s.e0, s.e4, s.e5, s.e8]
  have hl : lmR V0 = lmP m c := by
    unfold lmR lmP
    rw [s.e6, s.e7, s.e9, s.e2]
  unfold total part
  rw [ha, hl, s.e10, s.e2, s.e1, s.e3]

/-- The two ctc outputs are one. -/
theorem ctc_same (s : Same m c V0) (b : Fin 8) (t : Fin 512) (v : Fin 500) :
    Cert.Spec.lsm (fun k => Cert.Spec.encmul (n := 500) (A0 V0) (A4 V0) (A5 V0) (A13 V0) b t k) v
      = Cert.Spec.lsm (fun k => Cert.Spec.encmul (n := 500) (K0 m c) (K4 m c) (K5 m c) (K13 m c) b t k) v := by
  rw [s.e0, s.e4, s.e5, s.e13]

/-- Of inputs in range, the kernel's pruned loss and its ctc output are the reference's, over the extended reals. -/
theorem algebraic : Cert.algebraic_KernelIdeal_ReferenceIdeal_pre_inputs_in_range := by
  intro m g m' g' hpre hagree
  have same (c) : Same m c (StableHlo.launchContents m' c) := by
    obtain ⟨e0, e1, e2, e3, e4, e5, e6, e7, e8, e9, e10, -, -, e13⟩ := hagree c
    exact ⟨e0, e1, e2, e3, e4, e5, e6, e7, e8, e9, e10, e13⟩
  have ok (c) : Cert.KernelIdeal.Read.Ok m c :=
    ⟨Cert.Pre_inputs_in_range.t_range _ _ _ _ _ _ _ _ _ _ _ _ _ _ (hpre c).1,
      Cert.Pre_inputs_in_range.u_range _ _ _ _ _ _ _ _ _ _ _ _ _ _ (hpre c).2.2.1,
      Cert.Pre_inputs_in_range.y_range _ _ _ _ _ _ _ _ _ _ _ _ _ _ (hpre c).2.1⟩
  refine ⟨fun c => (Cert.KernelIdeal.Gen.dats m 0 c).arrAt 20 Cert.KernelIdeal.cfg0.N,
    fun c => (Cert.KernelIdeal.Gen.dats m 0 c).arrAt 18 Cert.KernelIdeal.cfg0.N, ?_, ?_⟩
  · exact (θ_run Cert.KernelIdeal.defs _ _).mono (fun r h c => ⟨(h c).2.2.1, (h c).1, (h c).2.2.2⟩)
      (Cert.KernelIdeal.Value.run_blocks (F := Ideal) m g)
  · refine (θ_run Cert.ReferenceIdeal.defs _ _).mono (fun r h c => ⟨(h c).1.trans ?_, (h c).2.1.trans ?_, (h c).2.2⟩)
      (Cert.ReferenceIdeal.Value.run (F := Ideal) m' g')
    · refine Eq.trans ?_ (arr20 m c (ok c) (Cert.Pre_inputs_in_range.out_real _ _ _ _ _ _ _ _ _ _ _ _ _ _ (hpre c).2.2.2.1)).symm
      funext j
      obtain ⟨p, q, rfl⟩ : ∃ p q, j = ix2 p q := ⟨_, _, eq_ix2 j⟩
      obtain rfl : p = 0 := Fin.fin_one_eq_zero p
      obtain rfl : q = 0 := Fin.fin_one_eq_zero q
      refine (pruned_apply (StableHlo.launchContents m' c) (ok_same m c _ (same c) (ok c))).trans ?_
      rw [total_same m c _ (same c)]
    · refine Eq.trans ?_ (arr18 m c (Cert.Pre_inputs_in_range.ctc_real _ _ _ _ _ _ _ _ _ _ _ _ _ _ (hpre c).2.2.2.2)).symm
      funext j
      obtain ⟨b, t, v, rfl⟩ : ∃ b t v, j = ix3 b t v := ⟨_, _, _, eq_ix3 j⟩
      exact (v6_apply (StableHlo.launchContents m' c) b t v).trans (ctc_same m c _ (same c) b t v)

/-- The certificate. -/
theorem claim : Cert.Claim :=
  ⟨Cert.Kernel.Gen.facts, Cert.KernelIdeal.Gen.facts, Cert.ReferenceIdeal.Gen.facts, Cert.Pre_inputs_in_range.Gen.facts,
    fun m g _ => Cert.Kernel.Gen.frame m g, fun m g _ => Cert.KernelIdeal.Gen.frame m g,
    fun m g _ => Cert.KernelIdeal.Gen.frame m g, frame_ri, fun m g _ => frame_ri m g trivial, trivial, algebraic⟩

end Cert.Proof

end
